-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x1x32x32 : Shape := ⟨4, ![65536, 1, 32, 32]⟩
abbrev S1x1024 : Shape := ⟨2, ![1, 1024]⟩
abbrev S32x32 : Shape := ⟨2, ![32, 32]⟩
abbrev S65536x1024 : Shape := ⟨2, ![65536, 1024]⟩
abbrev S65536x128 : Shape := ⟨2, ![65536, 128]⟩
abbrev S65536x1 : Shape := ⟨2, ![65536, 1]⟩
abbrev S65536 : Shape := ⟨1, ![65536]⟩
abbrev S512 : Shape := ⟨1, ![512]⟩
abbrev S_ : Shape := ⟨0, ![]⟩
abbrev S512x1 : Shape := ⟨2, ![512, 1]⟩
abbrev S512x1024 : Shape := ⟨2, ![512, 1024]⟩
abbrev S512x1x32x32 : Shape := ⟨4, ![512, 1, 32, 32]⟩
abbrev S1x1x32x32 : Shape := ⟨4, ![1, 1, 32, 32]⟩
abbrev S1x0x1x32x32 : Shape := ⟨5, ![1, 0, 1, 32, 32]⟩
abbrev S0x1x32x32 : Shape := ⟨4, ![0, 1, 32, 32]⟩
abbrev S512x1x0x32x32 : Shape := ⟨5, ![512, 1, 0, 32, 32]⟩
abbrev S512x0x32x32 : Shape := ⟨4, ![512, 0, 32, 32]⟩
abbrev S512x1x1x32 : Shape := ⟨4, ![512, 1, 1, 32]⟩
abbrev S512x1x1x0x32 : Shape := ⟨5, ![512, 1, 1, 0, 32]⟩
abbrev S512x1x0x32 : Shape := ⟨4, ![512, 1, 0, 32]⟩
abbrev S512x1x32x1 : Shape := ⟨4, ![512, 1, 32, 1]⟩
abbrev S512x1x32x1x1 : Shape := ⟨5, ![512, 1, 32, 1, 1]⟩
abbrev S512x1x32x34 : Shape := ⟨4, ![512, 1, 32, 34]⟩
abbrev S512x1x1x1x32 : Shape := ⟨5, ![512, 1, 1, 1, 32]⟩
abbrev S512x1x34x32 : Shape := ⟨4, ![512, 1, 34, 32]⟩
abbrev S512x1x34x1 : Shape := ⟨4, ![512, 1, 34, 1]⟩
abbrev S512x1x34x1x0 : Shape := ⟨5, ![512, 1, 34, 1, 0]⟩
abbrev S512x1x34x0 : Shape := ⟨4, ![512, 1, 34, 0]⟩
abbrev S512x36 : Shape := ⟨2, ![512, 36]⟩
abbrev S512x1024x1 : Shape := ⟨3, ![512, 1024, 1]⟩
abbrev S512x1024x2 : Shape := ⟨3, ![512, 1024, 2]⟩
abbrev S512x38 : Shape := ⟨2, ![512, 38]⟩
abbrev S512x128 : Shape := ⟨2, ![512, 128]⟩
abbrev S512x35 : Shape := ⟨2, ![512, 35]⟩
abbrev S1x128 : Shape := ⟨2, ![1, 128]⟩

abbrev nBuf : Space → Nat
  | .hbm => 207
  | .vmem => 5
  | .smem => 0
  | _ => 0

abbrev hbmTy0_0 (i : Nat) : BufTy := match i % 128 with
  | 0 => ⟨S65536x1x32x32, .f32⟩
  | 1 => ⟨S1x1024, .f32⟩
  | 2 => ⟨S32x32, .f32⟩
  | 3 => ⟨S65536x1024, .f32⟩
  | 4 => ⟨S65536x128, .f32⟩
  | 5 => ⟨S65536x1, .f32⟩
  | 6 => ⟨S65536, .f32⟩
  | 7 => ⟨S65536x1, .f32⟩
  | 8 => ⟨S65536, .f32⟩
  | 9 => ⟨S65536, .f32⟩
  | 10 => ⟨S512, .f32⟩
  | 11 => ⟨S512, .i32⟩
  | 12 => ⟨S_, .i32⟩
  | 13 => ⟨S512, .i32⟩
  | 14 => ⟨S512, .i1⟩
  | 15 => ⟨S_, .i32⟩
  | 16 => ⟨S512, .i32⟩
  | 17 => ⟨S512, .i32⟩
  | 18 => ⟨S512, .i32⟩
  | 19 => ⟨S512x1, .i32⟩
  | 20 => ⟨S512x1024, .f32⟩
  | 21 => ⟨S512x1x32x32, .f32⟩
  | 22 => ⟨S_, .i32⟩
  | 23 => ⟨S1x1x32x32, .f32⟩
  | 24 => ⟨S1x0x1x32x32, .f32⟩
  | 25 => ⟨S0x1x32x32, .f32⟩
  | 26 => ⟨S1x1x32x32, .f32⟩
  | 27 => ⟨S1x0x1x32x32, .f32⟩
  | 28 => ⟨S0x1x32x32, .f32⟩
  | 29 => ⟨S512x1x32x32, .f32⟩
  | 30 => ⟨S512x1x32x32, .f32⟩
  | 31 => ⟨S512x1x0x32x32, .f32⟩
  | 32 => ⟨S512x0x32x32, .f32⟩
  | 33 => ⟨S512x1x32x32, .f32⟩
  | 34 => ⟨S512x1x0x32x32, .f32⟩
  | 35 => ⟨S512x0x32x32, .f32⟩
  | 36 => ⟨S512x1x32x32, .f32⟩
  | 37 => ⟨S512x1x1x32, .f32⟩
  | 38 => ⟨S512x1x1x0x32, .f32⟩
  | 39 => ⟨S512x1x0x32, .f32⟩
  | 40 => ⟨S512x1x1x32, .f32⟩
  | 41 => ⟨S512x1x1x0x32, .f32⟩
  | 42 => ⟨S512x1x0x32, .f32⟩
  | 43 => ⟨S512x1x32x32, .f32⟩
  | 44 => ⟨S512x1x32x1, .f32⟩
  | 45 => ⟨S512x1x32x1x1, .f32⟩
  | 46 => ⟨S512x1x32x1, .f32⟩
  | 47 => ⟨S512x1x32x1, .f32⟩
  | 48 => ⟨S512x1x32x1x1, .f32⟩
  | 49 => ⟨S512x1x32x1, .f32⟩
  | 50 => ⟨S512x1x32x34, .f32⟩
  | 51 => ⟨S512x1x32x32, .f32⟩
  | 52 => ⟨S512x1x32x32, .f32⟩
  | 53 => ⟨S512x1x32x32, .f32⟩
  | 54 => ⟨S_, .f32⟩
  | 55 => ⟨S512x1x32x32, .f32⟩
  | 56 => ⟨S512x1x32x32, .f32⟩
  | 57 => ⟨S_, .i32⟩
  | 58 => ⟨S1x1x32x32, .f32⟩
  | 59 => ⟨S1x0x1x32x32, .f32⟩
  | 60 => ⟨S0x1x32x32, .f32⟩
  | 61 => ⟨S1x1x32x32, .f32⟩
  | 62 => ⟨S1x0x1x32x32, .f32⟩
  | 63 => ⟨S0x1x32x32, .f32⟩
  | 64 => ⟨S512x1x32x32, .f32⟩
  | 65 => ⟨S512x1x32x32, .f32⟩
  | 66 => ⟨S512x1x0x32x32, .f32⟩
  | 67 => ⟨S512x0x32x32, .f32⟩
  | 68 => ⟨S512x1x32x32, .f32⟩
  | 69 => ⟨S512x1x0x32x32, .f32⟩
  | 70 => ⟨S512x0x32x32, .f32⟩
  | 71 => ⟨S512x1x32x32, .f32⟩
  | 72 => ⟨S512x1x1x32, .f32⟩
  | 73 => ⟨S512x1x1x1x32, .f32⟩
  | 74 => ⟨S512x1x1x32, .f32⟩
  | 75 => ⟨S512x1x1x32, .f32⟩
  | 76 => ⟨S512x1x1x1x32, .f32⟩
  | 77 => ⟨S512x1x1x32, .f32⟩
  | 78 => ⟨S512x1x34x32, .f32⟩
  | 79 => ⟨S512x1x34x1, .f32⟩
  | 80 => ⟨S512x1x34x1x0, .f32⟩
  | 81 => ⟨S512x1x34x0, .f32⟩
  | 82 => ⟨S512x1x34x1, .f32⟩
  | 83 => ⟨S512x1x34x1x0, .f32⟩
  | 84 => ⟨S512x1x34x0, .f32⟩
  | 85 => ⟨S512x1x34x32, .f32⟩
  | 86 => ⟨S512x1x32x32, .f32⟩
  | 87 => ⟨S512x1x32x32, .f32⟩
  | 88 => ⟨S512x1x32x32, .f32⟩
  | 89 => ⟨S_, .f32⟩
  | 90 => ⟨S512x1x32x32, .f32⟩
  | 91 => ⟨S512x1x32x32, .f32⟩
  | 92 => ⟨S512x1x32x32, .f32⟩
  | 93 => ⟨S512x1x32x32, .f32⟩
  | 94 => ⟨S512x1x32x32, .f32⟩
  | 95 => ⟨S_, .f32⟩
  | 96 => ⟨S512x1x32x32, .f32⟩
  | 97 => ⟨S512x1x32x32, .f32⟩
  | 98 => ⟨S512x1x32x32, .f32⟩
  | 99 => ⟨S1x1x32x32, .f32⟩
  | 100 => ⟨S512x1x32x32, .f32⟩
  | 101 => ⟨S512x1x32x32, .f32⟩
  | 102 => ⟨S512x1x32x32, .f32⟩
  | 103 => ⟨S_, .f32⟩
  | 104 => ⟨S512x1x32x32, .f32⟩
  | 105 => ⟨S512x1x32x32, .f32⟩
  | 106 => ⟨S_, .f32⟩
  | 107 => ⟨S512x1x32x32, .f32⟩
  | 108 => ⟨S512x1x32x32, .f32⟩
  | 109 => ⟨S_, .f32⟩
  | 110 => ⟨S512x1x32x32, .f32⟩
  | 111 => ⟨S512x1x32x32, .f32⟩
  | 112 => ⟨S512x1x32x32, .f32⟩
  | 113 => ⟨S512x1x32x32, .f32⟩
  | 114 => ⟨S_, .i32⟩
  | 115 => ⟨S_, .f32⟩
  | 116 => ⟨S512x1x32x32, .f32⟩
  | 117 => ⟨S512x1x32x32, .f32⟩
  | 118 => ⟨S_, .f32⟩
  | 119 => ⟨S512x1x32x32, .f32⟩
  | 120 => ⟨S512x1x32x32, .i1⟩
  | 121 => ⟨S_, .f32⟩
  | 122 => ⟨S512x1x32x32, .f32⟩
  | 123 => ⟨S512x1x32x32, .i1⟩
  | 124 => ⟨S_, .f32⟩
  | 125 => ⟨S_, .i1⟩
  | 126 => ⟨S512x1x32x32, .i1⟩
  | 127 => ⟨S512x1x32x32, .i1⟩
  | _ => ⟨S65536x1x32x32, .f32⟩

abbrev hbmTy0_1 (i : Nat) : BufTy := match i % 128 with
  | 0 => ⟨S512x1x32x32, .i1⟩
  | 1 => ⟨S512x1x32x32, .f32⟩
  | 2 => ⟨S512x1x32x32, .f32⟩
  | 3 => ⟨S512x1x32x32, .f32⟩
  | 4 => ⟨S512x1x32x32, .i32⟩
  | 5 => ⟨S_, .f32⟩
  | 6 => ⟨S512x1x32x32, .f32⟩
  | 7 => ⟨S512x1x32x32, .f32⟩
  | 8 => ⟨S512x1x32x32, .f32⟩
  | 9 => ⟨S512x1024, .i32⟩
  | 10 => ⟨S512x1024, .f32⟩
  | 11 => ⟨S_, .f32⟩
  | 12 => ⟨S512x36, .f32⟩
  | 13 => ⟨S512, .i32⟩
  | 14 => ⟨S512x1, .i32⟩
  | 15 => ⟨S_, .i32⟩
  | 16 => ⟨S512x1, .i32⟩
  | 17 => ⟨S512x1, .i1⟩
  | 18 => ⟨S_, .i32⟩
  | 19 => ⟨S512x1, .i32⟩
  | 20 => ⟨S512x1, .i32⟩
  | 21 => ⟨S512x1, .i32⟩
  | 22 => ⟨S_, .i32⟩
  | 23 => ⟨S512x1024, .i32⟩
  | 24 => ⟨S512x1024, .i1⟩
  | 25 => ⟨S_, .i32⟩
  | 26 => ⟨S512x1024, .i32⟩
  | 27 => ⟨S512x1024, .i32⟩
  | 28 => ⟨S512x1024, .i32⟩
  | 29 => ⟨S512x1024, .i32⟩
  | 30 => ⟨S512x1024x1, .i32⟩
  | 31 => ⟨S512x1024x1, .i32⟩
  | 32 => ⟨S512x1024x2, .i32⟩
  | 33 => ⟨S512x36, .f32⟩
  | 34 => ⟨S_, .f32⟩
  | 35 => ⟨S512x36, .f32⟩
  | 36 => ⟨S512x36, .f32⟩
  | 37 => ⟨S_, .i32⟩
  | 38 => ⟨S_, .f32⟩
  | 39 => ⟨S512x38, .f32⟩
  | 40 => ⟨S512x36, .f32⟩
  | 41 => ⟨S_, .f32⟩
  | 42 => ⟨S512x36, .f32⟩
  | 43 => ⟨S512x36, .f32⟩
  | 44 => ⟨S512x36, .f32⟩
  | 45 => ⟨S_, .f32⟩
  | 46 => ⟨S512x36, .f32⟩
  | 47 => ⟨S512x36, .f32⟩
  | 48 => ⟨S512x36, .f32⟩
  | 49 => ⟨S512x36, .f32⟩
  | 50 => ⟨S_, .f32⟩
  | 51 => ⟨S512x36, .f32⟩
  | 52 => ⟨S512x36, .f32⟩
  | 53 => ⟨S512x36, .f32⟩
  | 54 => ⟨S512x36, .i32⟩
  | 55 => ⟨S_, .f32⟩
  | 56 => ⟨S_, .i32⟩
  | 57 => ⟨S512, .f32⟩
  | 58 => ⟨S512, .i32⟩
  | 59 => ⟨S512, .f32⟩
  | 60 => ⟨S_, .f32⟩
  | 61 => ⟨S512, .f32⟩
  | 62 => ⟨S512, .f32⟩
  | 63 => ⟨S_, .f32⟩
  | 64 => ⟨S512, .f32⟩
  | 65 => ⟨S512, .f32⟩
  | 66 => ⟨S_, .f32⟩
  | 67 => ⟨S512, .f32⟩
  | 68 => ⟨S512, .f32⟩
  | 69 => ⟨S512, .f32⟩
  | 70 => ⟨S_, .i32⟩
  | 71 => ⟨S512, .i32⟩
  | 72 => ⟨S512, .i1⟩
  | 73 => ⟨S_, .i32⟩
  | 74 => ⟨S512, .i32⟩
  | 75 => ⟨S512, .i32⟩
  | 76 => ⟨S512, .i32⟩
  | 77 => ⟨S512x1, .i32⟩
  | 78 => ⟨S65536, .f32⟩
  | _ => ⟨S65536x1x32x32, .f32⟩

abbrev hbmTy (i : Nat) : BufTy := match i / 128 with
  | 0 => hbmTy0_0 i
  | 1 => hbmTy0_1 i
  | _ => ⟨S65536x1x32x32, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | _, _ => ⟨S65536x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_values : Ref sig .tc := ⟨.hbm, 10, rfl⟩
abbrev main_call0_indices : Ref sig .tc := ⟨.hbm, 11, rfl⟩
abbrev main_call0_c : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c_2 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_v12 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_call0_call0_v22 : Ref sig .tc := ⟨.hbm, 45, rfl⟩
abbrev main_call0_call0_v23 : Ref sig .tc := ⟨.hbm, 46, rfl⟩
abbrev main_call0_call0_v24 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_v15 : Ref sig .tc := ⟨.hbm, 50, rfl⟩
abbrev main_call0_v16 : Ref sig .tc := ⟨.hbm, 51, rfl⟩
abbrev main_call0_v17 : Ref sig .tc := ⟨.hbm, 52, rfl⟩
abbrev main_call0_v18 : Ref sig .tc := ⟨.hbm, 53, rfl⟩
abbrev main_call0_cst_3 : Ref sig .tc := ⟨.hbm, 54, rfl⟩
abbrev main_call0_v19 : Ref sig .tc := ⟨.hbm, 55, rfl⟩
abbrev main_call0_v20 : Ref sig .tc := ⟨.hbm, 56, rfl⟩
abbrev main_call0_c_4 : Ref sig .tc := ⟨.hbm, 57, rfl⟩
abbrev main_call0_call1_v0 : Ref sig .tc := ⟨.hbm, 58, rfl⟩
abbrev main_call0_call1_v1 : Ref sig .tc := ⟨.hbm, 59, rfl⟩
abbrev main_call0_call1_v2 : Ref sig .tc := ⟨.hbm, 60, rfl⟩
abbrev main_call0_call1_v3 : Ref sig .tc := ⟨.hbm, 61, rfl⟩
abbrev main_call0_call1_v4 : Ref sig .tc := ⟨.hbm, 62, rfl⟩
abbrev main_call0_call1_v5 : Ref sig .tc := ⟨.hbm, 63, rfl⟩
abbrev main_call0_call1_v6 : Ref sig .tc := ⟨.hbm, 64, rfl⟩
abbrev main_call0_call1_v7 : Ref sig .tc := ⟨.hbm, 65, rfl⟩
abbrev main_call0_call1_v8 : Ref sig .tc := ⟨.hbm, 66, rfl⟩
abbrev main_call0_call1_v9 : Ref sig .tc := ⟨.hbm, 67, rfl⟩
abbrev main_call0_call1_v10 : Ref sig .tc := ⟨.hbm, 68, rfl⟩
abbrev main_call0_call1_v11 : Ref sig .tc := ⟨.hbm, 69, rfl⟩
abbrev main_call0_call1_v12 : Ref sig .tc := ⟨.hbm, 70, rfl⟩
abbrev main_call0_call1_v13 : Ref sig .tc := ⟨.hbm, 71, rfl⟩
abbrev main_call0_call1_v14 : Ref sig .tc := ⟨.hbm, 72, rfl⟩
abbrev main_call0_call1_v15 : Ref sig .tc := ⟨.hbm, 73, rfl⟩
abbrev main_call0_call1_v16 : Ref sig .tc := ⟨.hbm, 74, rfl⟩
abbrev main_call0_call1_v17 : Ref sig .tc := ⟨.hbm, 75, rfl⟩
abbrev main_call0_call1_v18 : Ref sig .tc := ⟨.hbm, 76, rfl⟩
abbrev main_call0_call1_v19 : Ref sig .tc := ⟨.hbm, 77, rfl⟩
abbrev main_call0_call1_v20 : Ref sig .tc := ⟨.hbm, 78, rfl⟩
abbrev main_call0_call1_v21 : Ref sig .tc := ⟨.hbm, 79, rfl⟩
abbrev main_call0_call1_v22 : Ref sig .tc := ⟨.hbm, 80, rfl⟩
abbrev main_call0_call1_v23 : Ref sig .tc := ⟨.hbm, 81, rfl⟩
abbrev main_call0_call1_v24 : Ref sig .tc := ⟨.hbm, 82, rfl⟩
abbrev main_call0_call1_v25 : Ref sig .tc := ⟨.hbm, 83, rfl⟩
abbrev main_call0_call1_v26 : Ref sig .tc := ⟨.hbm, 84, rfl⟩
abbrev main_call0_v21 : Ref sig .tc := ⟨.hbm, 85, rfl⟩
abbrev main_call0_v22 : Ref sig .tc := ⟨.hbm, 86, rfl⟩
abbrev main_call0_v23 : Ref sig .tc := ⟨.hbm, 87, rfl⟩
abbrev main_call0_v24 : Ref sig .tc := ⟨.hbm, 88, rfl⟩
abbrev main_call0_cst_5 : Ref sig .tc := ⟨.hbm, 89, rfl⟩
abbrev main_call0_v25 : Ref sig .tc := ⟨.hbm, 90, rfl⟩
abbrev main_call0_v26 : Ref sig .tc := ⟨.hbm, 91, rfl⟩
abbrev main_call0_v27 : Ref sig .tc := ⟨.hbm, 92, rfl⟩
abbrev main_call0_v28 : Ref sig .tc := ⟨.hbm, 93, rfl⟩
abbrev main_call0_v29 : Ref sig .tc := ⟨.hbm, 94, rfl⟩
abbrev main_call0_cst_6 : Ref sig .tc := ⟨.hbm, 95, rfl⟩
abbrev main_call0_v30 : Ref sig .tc := ⟨.hbm, 96, rfl⟩
abbrev main_call0_v31 : Ref sig .tc := ⟨.hbm, 97, rfl⟩
abbrev main_call0_v32 : Ref sig .tc := ⟨.hbm, 98, rfl⟩
abbrev main_call0_v33 : Ref sig .tc := ⟨.hbm, 99, rfl⟩
abbrev main_call0_v34 : Ref sig .tc := ⟨.hbm, 100, rfl⟩
abbrev main_call0_v35 : Ref sig .tc := ⟨.hbm, 101, rfl⟩
abbrev main_call0_v36 : Ref sig .tc := ⟨.hbm, 102, rfl⟩
abbrev main_call0_cst_7 : Ref sig .tc := ⟨.hbm, 103, rfl⟩
abbrev main_call0_v37 : Ref sig .tc := ⟨.hbm, 104, rfl⟩
abbrev main_call0_v38 : Ref sig .tc := ⟨.hbm, 105, rfl⟩
abbrev main_call0_cst_8 : Ref sig .tc := ⟨.hbm, 106, rfl⟩
abbrev main_call0_v39 : Ref sig .tc := ⟨.hbm, 107, rfl⟩
abbrev main_call0_v40 : Ref sig .tc := ⟨.hbm, 108, rfl⟩
abbrev main_call0_cst_9 : Ref sig .tc := ⟨.hbm, 109, rfl⟩
abbrev main_call0_v41 : Ref sig .tc := ⟨.hbm, 110, rfl⟩
abbrev main_call0_v42 : Ref sig .tc := ⟨.hbm, 111, rfl⟩
abbrev main_call0_v43 : Ref sig .tc := ⟨.hbm, 112, rfl⟩
abbrev main_call0_v44 : Ref sig .tc := ⟨.hbm, 113, rfl⟩
abbrev main_call0_c_10 : Ref sig .tc := ⟨.hbm, 114, rfl⟩
abbrev main_call0_call2_v0 : Ref sig .tc := ⟨.hbm, 115, rfl⟩
abbrev main_call0_call2_v1 : Ref sig .tc := ⟨.hbm, 116, rfl⟩
abbrev main_call0_call2_v2 : Ref sig .tc := ⟨.hbm, 117, rfl⟩
abbrev main_call0_call2_cst : Ref sig .tc := ⟨.hbm, 118, rfl⟩
abbrev main_call0_call2_v3 : Ref sig .tc := ⟨.hbm, 119, rfl⟩
abbrev main_call0_call2_v4 : Ref sig .tc := ⟨.hbm, 120, rfl⟩
abbrev main_call0_call2_cst_0 : Ref sig .tc := ⟨.hbm, 121, rfl⟩
abbrev main_call0_call2_v5 : Ref sig .tc := ⟨.hbm, 122, rfl⟩
abbrev main_call0_call2_v6 : Ref sig .tc := ⟨.hbm, 123, rfl⟩
abbrev main_call0_call2_cst_1 : Ref sig .tc := ⟨.hbm, 124, rfl⟩
abbrev main_call0_call2_v7 : Ref sig .tc := ⟨.hbm, 125, rfl⟩
abbrev main_call0_call2_v8 : Ref sig .tc := ⟨.hbm, 126, rfl⟩
abbrev main_call0_call2_v9 : Ref sig .tc := ⟨.hbm, 127, rfl⟩
abbrev main_call0_call2_v10 : Ref sig .tc := ⟨.hbm, 128, rfl⟩
abbrev main_call0_call2_v11 : Ref sig .tc := ⟨.hbm, 129, rfl⟩
abbrev main_call0_call2_v12 : Ref sig .tc := ⟨.hbm, 130, rfl⟩
abbrev main_call0_v45 : Ref sig .tc := ⟨.hbm, 131, rfl⟩
abbrev main_call0_v46 : Ref sig .tc := ⟨.hbm, 132, rfl⟩
abbrev main_call0_cst_11 : Ref sig .tc := ⟨.hbm, 133, rfl⟩
abbrev main_call0_v47 : Ref sig .tc := ⟨.hbm, 134, rfl⟩
abbrev main_call0_v48 : Ref sig .tc := ⟨.hbm, 135, rfl⟩
abbrev main_call0_v49 : Ref sig .tc := ⟨.hbm, 136, rfl⟩
abbrev main_call0_v50 : Ref sig .tc := ⟨.hbm, 137, rfl⟩
abbrev main_call0_v51 : Ref sig .tc := ⟨.hbm, 138, rfl⟩
abbrev main_call0_cst_12 : Ref sig .tc := ⟨.hbm, 139, rfl⟩
abbrev main_call0_v52 : Ref sig .tc := ⟨.hbm, 140, rfl⟩
abbrev main_call0_v53 : Ref sig .tc := ⟨.hbm, 141, rfl⟩
abbrev main_call0_v54 : Ref sig .tc := ⟨.hbm, 142, rfl⟩
abbrev main_call0_c_13 : Ref sig .tc := ⟨.hbm, 143, rfl⟩
abbrev main_call0_v55 : Ref sig .tc := ⟨.hbm, 144, rfl⟩
abbrev main_call0_v56 : Ref sig .tc := ⟨.hbm, 145, rfl⟩
abbrev main_call0_c_14 : Ref sig .tc := ⟨.hbm, 146, rfl⟩
abbrev main_call0_v57 : Ref sig .tc := ⟨.hbm, 147, rfl⟩
abbrev main_call0_v58 : Ref sig .tc := ⟨.hbm, 148, rfl⟩
abbrev main_call0_v59 : Ref sig .tc := ⟨.hbm, 149, rfl⟩
abbrev main_call0_c_15 : Ref sig .tc := ⟨.hbm, 150, rfl⟩
abbrev main_call0_v60 : Ref sig .tc := ⟨.hbm, 151, rfl⟩
abbrev main_call0_v61 : Ref sig .tc := ⟨.hbm, 152, rfl⟩
abbrev main_call0_c_16 : Ref sig .tc := ⟨.hbm, 153, rfl⟩
abbrev main_call0_v62 : Ref sig .tc := ⟨.hbm, 154, rfl⟩
abbrev main_call0_v63 : Ref sig .tc := ⟨.hbm, 155, rfl⟩
abbrev main_call0_v64 : Ref sig .tc := ⟨.hbm, 156, rfl⟩
abbrev main_call0_v65 : Ref sig .tc := ⟨.hbm, 157, rfl⟩
abbrev main_call0_v66 : Ref sig .tc := ⟨.hbm, 158, rfl⟩
abbrev main_call0_v67 : Ref sig .tc := ⟨.hbm, 159, rfl⟩
abbrev main_call0_v68 : Ref sig .tc := ⟨.hbm, 160, rfl⟩
abbrev main_call0_v69 : Ref sig .tc := ⟨.hbm, 161, rfl⟩
abbrev main_call0_cst_17 : Ref sig .tc := ⟨.hbm, 162, rfl⟩
abbrev main_call0_v70 : Ref sig .tc := ⟨.hbm, 163, rfl⟩
abbrev main_call0_v71 : Ref sig .tc := ⟨.hbm, 164, rfl⟩
abbrev main_call0_c_18 : Ref sig .tc := ⟨.hbm, 165, rfl⟩
abbrev main_call0_call3_v0 : Ref sig .tc := ⟨.hbm, 166, rfl⟩
abbrev main_call0_v72 : Ref sig .tc := ⟨.hbm, 167, rfl⟩
abbrev main_call0_v73 : Ref sig .tc := ⟨.hbm, 168, rfl⟩
abbrev main_call0_cst_19 : Ref sig .tc := ⟨.hbm, 169, rfl⟩
abbrev main_call0_v74 : Ref sig .tc := ⟨.hbm, 170, rfl⟩
abbrev main_call0_v75 : Ref sig .tc := ⟨.hbm, 171, rfl⟩
abbrev main_call0_v76 : Ref sig .tc := ⟨.hbm, 172, rfl⟩
abbrev main_call0_cst_20 : Ref sig .tc := ⟨.hbm, 173, rfl⟩
abbrev main_call0_v77 : Ref sig .tc := ⟨.hbm, 174, rfl⟩
abbrev main_call0_v78 : Ref sig .tc := ⟨.hbm, 175, rfl⟩
abbrev main_call0_v79 : Ref sig .tc := ⟨.hbm, 176, rfl⟩
abbrev main_call0_v80 : Ref sig .tc := ⟨.hbm, 177, rfl⟩
abbrev main_call0_cst_21 : Ref sig .tc := ⟨.hbm, 178, rfl⟩
abbrev main_call0_v81 : Ref sig .tc := ⟨.hbm, 179, rfl⟩
abbrev main_call0_v82 : Ref sig .tc := ⟨.hbm, 180, rfl⟩
abbrev main_call0_v83 : Ref sig .tc := ⟨.hbm, 181, rfl⟩
abbrev main_call0_call4_v0 : Ref sig .tc := ⟨.hbm, 182, rfl⟩
abbrev main_call0_call4_cst : Ref sig .tc := ⟨.hbm, 183, rfl⟩
abbrev main_call0_call4_c : Ref sig .tc := ⟨.hbm, 184, rfl⟩
abbrev main_call0_call4_v1_0 : Ref sig .tc := ⟨.hbm, 185, rfl⟩
abbrev main_call0_v84 : Ref sig .tc := ⟨.hbm, 186, rfl⟩
abbrev main_call0_v85 : Ref sig .tc := ⟨.hbm, 187, rfl⟩
abbrev main_call0_cst_22 : Ref sig .tc := ⟨.hbm, 188, rfl⟩
abbrev main_call0_v86 : Ref sig .tc := ⟨.hbm, 189, rfl⟩
abbrev main_call0_v87 : Ref sig .tc := ⟨.hbm, 190, rfl⟩
abbrev main_call0_cst_23 : Ref sig .tc := ⟨.hbm, 191, rfl⟩
abbrev main_call0_v88 : Ref sig .tc := ⟨.hbm, 192, rfl⟩
abbrev main_call0_v89 : Ref sig .tc := ⟨.hbm, 193, rfl⟩
abbrev main_call0_cst_24 : Ref sig .tc := ⟨.hbm, 194, rfl⟩
abbrev main_call0_v90 : Ref sig .tc := ⟨.hbm, 195, rfl⟩
abbrev main_call0_v91 : Ref sig .tc := ⟨.hbm, 196, rfl⟩
abbrev main_call0_v92 : Ref sig .tc := ⟨.hbm, 197, rfl⟩
abbrev main_call0_c_25 : Ref sig .tc := ⟨.hbm, 198, rfl⟩
abbrev main_call0_v93 : Ref sig .tc := ⟨.hbm, 199, rfl⟩
abbrev main_call0_v94 : Ref sig .tc := ⟨.hbm, 200, rfl⟩
abbrev main_call0_c_26 : Ref sig .tc := ⟨.hbm, 201, rfl⟩
abbrev main_call0_v95 : Ref sig .tc := ⟨.hbm, 202, rfl⟩
abbrev main_call0_v96 : Ref sig .tc := ⟨.hbm, 203, rfl⟩
abbrev main_call0_v97 : Ref sig .tc := ⟨.hbm, 204, rfl⟩
abbrev main_call0_v98 : Ref sig .tc := ⟨.hbm, 205, rfl⟩
abbrev main_v0 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S65536x1x32x32 : Shape := ⟨4, ![65536, 1, 32, 32]⟩
abbrev S32x32 : Shape := ⟨2, ![32, 32]⟩
abbrev S_ : Shape := ⟨0, ![]⟩
abbrev S1x1x32x32 : Shape := ⟨4, ![1, 1, 32, 32]⟩
abbrev S1x0x1x32x32 : Shape := ⟨5, ![1, 0, 1, 32, 32]⟩
abbrev S0x1x32x32 : Shape := ⟨4, ![0, 1, 32, 32]⟩
abbrev S65536x1x0x32x32 : Shape := ⟨5, ![65536, 1, 0, 32, 32]⟩
abbrev S65536x0x32x32 : Shape := ⟨4, ![65536, 0, 32, 32]⟩
abbrev S65536x1x1x32 : Shape := ⟨4, ![65536, 1, 1, 32]⟩
abbrev S65536x1x1x0x32 : Shape := ⟨5, ![65536, 1, 1, 0, 32]⟩
abbrev S65536x1x0x32 : Shape := ⟨4, ![65536, 1, 0, 32]⟩
abbrev S65536x1x32x1 : Shape := ⟨4, ![65536, 1, 32, 1]⟩
abbrev S65536x1x32x1x1 : Shape := ⟨5, ![65536, 1, 32, 1, 1]⟩
abbrev S65536x1x32x34 : Shape := ⟨4, ![65536, 1, 32, 34]⟩
abbrev S65536x1x1x1x32 : Shape := ⟨5, ![65536, 1, 1, 1, 32]⟩
abbrev S65536x1x34x32 : Shape := ⟨4, ![65536, 1, 34, 32]⟩
abbrev S65536x1x34x1 : Shape := ⟨4, ![65536, 1, 34, 1]⟩
abbrev S65536x1x34x1x0 : Shape := ⟨5, ![65536, 1, 34, 1, 0]⟩
abbrev S65536x1x34x0 : Shape := ⟨4, ![65536, 1, 34, 0]⟩
abbrev S65536x1024 : Shape := ⟨2, ![65536, 1024]⟩
abbrev S65536x36 : Shape := ⟨2, ![65536, 36]⟩
abbrev S65536 : Shape := ⟨1, ![65536]⟩
abbrev S65536x1 : Shape := ⟨2, ![65536, 1]⟩
abbrev S65536x1024x1 : Shape := ⟨3, ![65536, 1024, 1]⟩
abbrev S65536x1024x2 : Shape := ⟨3, ![65536, 1024, 2]⟩
abbrev S65536x38 : Shape := ⟨2, ![65536, 38]⟩

abbrev nBuf : Space → Nat
  | .hbm => 178
  | .vmem => 0
  | .smem => 0
  | _ => 0

abbrev hbmTy0_0 (i : Nat) : BufTy := match i % 128 with
  | 0 => ⟨S65536x1x32x32, .f32⟩
  | 1 => ⟨S32x32, .f32⟩
  | 2 => ⟨S_, .i32⟩
  | 3 => ⟨S1x1x32x32, .f32⟩
  | 4 => ⟨S1x0x1x32x32, .f32⟩
  | 5 => ⟨S0x1x32x32, .f32⟩
  | 6 => ⟨S1x1x32x32, .f32⟩
  | 7 => ⟨S1x0x1x32x32, .f32⟩
  | 8 => ⟨S0x1x32x32, .f32⟩
  | 9 => ⟨S65536x1x32x32, .f32⟩
  | 10 => ⟨S65536x1x32x32, .f32⟩
  | 11 => ⟨S65536x1x0x32x32, .f32⟩
  | 12 => ⟨S65536x0x32x32, .f32⟩
  | 13 => ⟨S65536x1x32x32, .f32⟩
  | 14 => ⟨S65536x1x0x32x32, .f32⟩
  | 15 => ⟨S65536x0x32x32, .f32⟩
  | 16 => ⟨S65536x1x32x32, .f32⟩
  | 17 => ⟨S65536x1x1x32, .f32⟩
  | 18 => ⟨S65536x1x1x0x32, .f32⟩
  | 19 => ⟨S65536x1x0x32, .f32⟩
  | 20 => ⟨S65536x1x1x32, .f32⟩
  | 21 => ⟨S65536x1x1x0x32, .f32⟩
  | 22 => ⟨S65536x1x0x32, .f32⟩
  | 23 => ⟨S65536x1x32x32, .f32⟩
  | 24 => ⟨S65536x1x32x1, .f32⟩
  | 25 => ⟨S65536x1x32x1x1, .f32⟩
  | 26 => ⟨S65536x1x32x1, .f32⟩
  | 27 => ⟨S65536x1x32x1, .f32⟩
  | 28 => ⟨S65536x1x32x1x1, .f32⟩
  | 29 => ⟨S65536x1x32x1, .f32⟩
  | 30 => ⟨S65536x1x32x34, .f32⟩
  | 31 => ⟨S65536x1x32x32, .f32⟩
  | 32 => ⟨S65536x1x32x32, .f32⟩
  | 33 => ⟨S65536x1x32x32, .f32⟩
  | 34 => ⟨S_, .f32⟩
  | 35 => ⟨S65536x1x32x32, .f32⟩
  | 36 => ⟨S65536x1x32x32, .f32⟩
  | 37 => ⟨S_, .i32⟩
  | 38 => ⟨S1x1x32x32, .f32⟩
  | 39 => ⟨S1x0x1x32x32, .f32⟩
  | 40 => ⟨S0x1x32x32, .f32⟩
  | 41 => ⟨S1x1x32x32, .f32⟩
  | 42 => ⟨S1x0x1x32x32, .f32⟩
  | 43 => ⟨S0x1x32x32, .f32⟩
  | 44 => ⟨S65536x1x32x32, .f32⟩
  | 45 => ⟨S65536x1x32x32, .f32⟩
  | 46 => ⟨S65536x1x0x32x32, .f32⟩
  | 47 => ⟨S65536x0x32x32, .f32⟩
  | 48 => ⟨S65536x1x32x32, .f32⟩
  | 49 => ⟨S65536x1x0x32x32, .f32⟩
  | 50 => ⟨S65536x0x32x32, .f32⟩
  | 51 => ⟨S65536x1x32x32, .f32⟩
  | 52 => ⟨S65536x1x1x32, .f32⟩
  | 53 => ⟨S65536x1x1x1x32, .f32⟩
  | 54 => ⟨S65536x1x1x32, .f32⟩
  | 55 => ⟨S65536x1x1x32, .f32⟩
  | 56 => ⟨S65536x1x1x1x32, .f32⟩
  | 57 => ⟨S65536x1x1x32, .f32⟩
  | 58 => ⟨S65536x1x34x32, .f32⟩
  | 59 => ⟨S65536x1x34x1, .f32⟩
  | 60 => ⟨S65536x1x34x1x0, .f32⟩
  | 61 => ⟨S65536x1x34x0, .f32⟩
  | 62 => ⟨S65536x1x34x1, .f32⟩
  | 63 => ⟨S65536x1x34x1x0, .f32⟩
  | 64 => ⟨S65536x1x34x0, .f32⟩
  | 65 => ⟨S65536x1x34x32, .f32⟩
  | 66 => ⟨S65536x1x32x32, .f32⟩
  | 67 => ⟨S65536x1x32x32, .f32⟩
  | 68 => ⟨S65536x1x32x32, .f32⟩
  | 69 => ⟨S_, .f32⟩
  | 70 => ⟨S65536x1x32x32, .f32⟩
  | 71 => ⟨S65536x1x32x32, .f32⟩
  | 72 => ⟨S65536x1x32x32, .f32⟩
  | 73 => ⟨S65536x1x32x32, .f32⟩
  | 74 => ⟨S65536x1x32x32, .f32⟩
  | 75 => ⟨S_, .f32⟩
  | 76 => ⟨S65536x1x32x32, .f32⟩
  | 77 => ⟨S65536x1x32x32, .f32⟩
  | 78 => ⟨S65536x1x32x32, .f32⟩
  | 79 => ⟨S1x1x32x32, .f32⟩
  | 80 => ⟨S65536x1x32x32, .f32⟩
  | 81 => ⟨S65536x1x32x32, .f32⟩
  | 82 => ⟨S65536x1x32x32, .f32⟩
  | 83 => ⟨S_, .f32⟩
  | 84 => ⟨S65536x1x32x32, .f32⟩
  | 85 => ⟨S65536x1x32x32, .f32⟩
  | 86 => ⟨S_, .f32⟩
  | 87 => ⟨S65536x1x32x32, .f32⟩
  | 88 => ⟨S65536x1x32x32, .f32⟩
  | 89 => ⟨S_, .f32⟩
  | 90 => ⟨S65536x1x32x32, .f32⟩
  | 91 => ⟨S65536x1x32x32, .f32⟩
  | 92 => ⟨S65536x1x32x32, .f32⟩
  | 93 => ⟨S65536x1x32x32, .f32⟩
  | 94 => ⟨S_, .i32⟩
  | 95 => ⟨S_, .f32⟩
  | 96 => ⟨S65536x1x32x32, .f32⟩
  | 97 => ⟨S65536x1x32x32, .f32⟩
  | 98 => ⟨S_, .f32⟩
  | 99 => ⟨S65536x1x32x32, .f32⟩
  | 100 => ⟨S65536x1x32x32, .i1⟩
  | 101 => ⟨S_, .f32⟩
  | 102 => ⟨S65536x1x32x32, .f32⟩
  | 103 => ⟨S65536x1x32x32, .i1⟩
  | 104 => ⟨S_, .f32⟩
  | 105 => ⟨S_, .i1⟩
  | 106 => ⟨S65536x1x32x32, .i1⟩
  | 107 => ⟨S65536x1x32x32, .i1⟩
  | 108 => ⟨S65536x1x32x32, .i1⟩
  | 109 => ⟨S65536x1x32x32, .f32⟩
  | 110 => ⟨S65536x1x32x32, .f32⟩
  | 111 => ⟨S65536x1x32x32, .f32⟩
  | 112 => ⟨S65536x1x32x32, .i32⟩
  | 113 => ⟨S_, .f32⟩
  | 114 => ⟨S65536x1x32x32, .f32⟩
  | 115 => ⟨S65536x1x32x32, .f32⟩
  | 116 => ⟨S65536x1x32x32, .f32⟩
  | 117 => ⟨S65536x1024, .i32⟩
  | 118 => ⟨S65536x1024, .f32⟩
  | 119 => ⟨S_, .f32⟩
  | 120 => ⟨S65536x36, .f32⟩
  | 121 => ⟨S65536, .i32⟩
  | 122 => ⟨S65536x1, .i32⟩
  | 123 => ⟨S_, .i32⟩
  | 124 => ⟨S65536x1, .i32⟩
  | 125 => ⟨S65536x1, .i1⟩
  | 126 => ⟨S_, .i32⟩
  | 127 => ⟨S65536x1, .i32⟩
  | _ => ⟨S65536x1x32x32, .f32⟩

abbrev hbmTy0_1 (i : Nat) : BufTy := match i % 128 with
  | 0 => ⟨S65536x1, .i32⟩
  | 1 => ⟨S65536x1, .i32⟩
  | 2 => ⟨S_, .i32⟩
  | 3 => ⟨S65536x1024, .i32⟩
  | 4 => ⟨S65536x1024, .i1⟩
  | 5 => ⟨S_, .i32⟩
  | 6 => ⟨S65536x1024, .i32⟩
  | 7 => ⟨S65536x1024, .i32⟩
  | 8 => ⟨S65536x1024, .i32⟩
  | 9 => ⟨S65536x1024, .i32⟩
  | 10 => ⟨S65536x1024x1, .i32⟩
  | 11 => ⟨S65536x1024x1, .i32⟩
  | 12 => ⟨S65536x1024x2, .i32⟩
  | 13 => ⟨S65536x36, .f32⟩
  | 14 => ⟨S_, .f32⟩
  | 15 => ⟨S65536x36, .f32⟩
  | 16 => ⟨S65536x36, .f32⟩
  | 17 => ⟨S_, .i32⟩
  | 18 => ⟨S_, .f32⟩
  | 19 => ⟨S65536x38, .f32⟩
  | 20 => ⟨S65536x36, .f32⟩
  | 21 => ⟨S_, .f32⟩
  | 22 => ⟨S65536x36, .f32⟩
  | 23 => ⟨S65536x36, .f32⟩
  | 24 => ⟨S65536x36, .f32⟩
  | 25 => ⟨S_, .f32⟩
  | 26 => ⟨S65536x36, .f32⟩
  | 27 => ⟨S65536x36, .f32⟩
  | 28 => ⟨S65536x36, .f32⟩
  | 29 => ⟨S65536x36, .f32⟩
  | 30 => ⟨S_, .f32⟩
  | 31 => ⟨S65536x36, .f32⟩
  | 32 => ⟨S65536x36, .f32⟩
  | 33 => ⟨S65536x36, .f32⟩
  | 34 => ⟨S65536x36, .i32⟩
  | 35 => ⟨S_, .f32⟩
  | 36 => ⟨S_, .i32⟩
  | 37 => ⟨S65536, .f32⟩
  | 38 => ⟨S65536, .i32⟩
  | 39 => ⟨S65536, .f32⟩
  | 40 => ⟨S_, .f32⟩
  | 41 => ⟨S65536, .f32⟩
  | 42 => ⟨S65536, .f32⟩
  | 43 => ⟨S_, .f32⟩
  | 44 => ⟨S65536, .f32⟩
  | 45 => ⟨S65536, .f32⟩
  | 46 => ⟨S_, .f32⟩
  | 47 => ⟨S65536, .f32⟩
  | 48 => ⟨S65536, .f32⟩
  | 49 => ⟨S65536, .f32⟩
  | _ => ⟨S65536x1x32x32, .f32⟩

abbrev hbmTy (i : Nat) : BufTy := match i / 128 with
  | 0 => hbmTy0_0 i
  | 1 => hbmTy0_1 i
  | _ => ⟨S65536x1x32x32, .f32⟩

abbrev bufTy : (tb : Table) → Fin (tcTables nBuf tb) → BufTy
  | .hbm, ⟨i, _⟩ => hbmTy i
  | _, _ => ⟨S65536x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_call0_v18 : Ref sig .tc := ⟨.hbm, 21, rfl⟩
abbrev main_call0_v19 : Ref sig .tc := ⟨.hbm, 22, rfl⟩
abbrev main_call0_v20 : Ref sig .tc := ⟨.hbm, 23, rfl⟩
abbrev main_call0_v21 : Ref sig .tc := ⟨.hbm, 24, rfl⟩
abbrev main_call0_v22 : Ref sig .tc := ⟨.hbm, 25, rfl⟩
abbrev main_call0_v23 : Ref sig .tc := ⟨.hbm, 26, rfl⟩
abbrev main_call0_v24 : Ref sig .tc := ⟨.hbm, 27, rfl⟩
abbrev main_call0_v25 : Ref sig .tc := ⟨.hbm, 28, rfl⟩
abbrev main_call0_v26 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_0 : Ref sig .tc := ⟨.hbm, 34, rfl⟩
abbrev main_v4 : Ref sig .tc := ⟨.hbm, 35, rfl⟩
abbrev main_v5 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_call1_v17 : Ref sig .tc := ⟨.hbm, 55, rfl⟩
abbrev main_call1_v18 : Ref sig .tc := ⟨.hbm, 56, rfl⟩
abbrev main_call1_v19 : Ref sig .tc := ⟨.hbm, 57, rfl⟩
abbrev main_call1_v20 : Ref sig .tc := ⟨.hbm, 58, rfl⟩
abbrev main_call1_v21 : Ref sig .tc := ⟨.hbm, 59, rfl⟩
abbrev main_call1_v22 : Ref sig .tc := ⟨.hbm, 60, rfl⟩
abbrev main_call1_v23 : Ref sig .tc := ⟨.hbm, 61, rfl⟩
abbrev main_call1_v24 : Ref sig .tc := ⟨.hbm, 62, rfl⟩
abbrev main_call1_v25 : Ref sig .tc := ⟨.hbm, 63, rfl⟩
abbrev main_call1_v26 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_cst_2 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_cst_3 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst_4 : Ref sig .tc := ⟨.hbm, 83, rfl⟩
abbrev main_v22 : Ref sig .tc := ⟨.hbm, 84, rfl⟩
abbrev main_v23 : Ref sig .tc := ⟨.hbm, 85, rfl⟩
abbrev main_cst_5 : Ref sig .tc := ⟨.hbm, 86, rfl⟩
abbrev main_v24 : Ref sig .tc := ⟨.hbm, 87, rfl⟩
abbrev main_v25 : Ref sig .tc := ⟨.hbm, 88, rfl⟩
abbrev main_cst_6 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_c_7 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_cst : Ref sig .tc := ⟨.hbm, 98, rfl⟩
abbrev main_call2_v3 : Ref sig .tc := ⟨.hbm, 99, rfl⟩
abbrev main_call2_v4 : Ref sig .tc := ⟨.hbm, 100, rfl⟩
abbrev main_call2_cst_0 : Ref sig .tc := ⟨.hbm, 101, rfl⟩
abbrev main_call2_v5 : Ref sig .tc := ⟨.hbm, 102, rfl⟩
abbrev main_call2_v6 : Ref sig .tc := ⟨.hbm, 103, rfl⟩
abbrev main_call2_cst_1 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_v30 : Ref sig .tc := ⟨.hbm, 111, rfl⟩
abbrev main_v31 : Ref sig .tc := ⟨.hbm, 112, rfl⟩
abbrev main_cst_8 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_cst_9 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_c_10 : Ref sig .tc := ⟨.hbm, 123, rfl⟩
abbrev main_v40 : Ref sig .tc := ⟨.hbm, 124, rfl⟩
abbrev main_v41 : Ref sig .tc := ⟨.hbm, 125, rfl⟩
abbrev main_c_11 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_c_12 : Ref sig .tc := ⟨.hbm, 130, rfl⟩
abbrev main_v45 : Ref sig .tc := ⟨.hbm, 131, rfl⟩
abbrev main_v46 : Ref sig .tc := ⟨.hbm, 132, rfl⟩
abbrev main_c_13 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_cst_14 : Ref sig .tc := ⟨.hbm, 142, rfl⟩
abbrev main_v55 : Ref sig .tc := ⟨.hbm, 143, rfl⟩
abbrev main_v56 : Ref sig .tc := ⟨.hbm, 144, rfl⟩
abbrev main_c_15 : Ref sig .tc := ⟨.hbm, 145, rfl⟩
abbrev main_call3_v0 : Ref sig .tc := ⟨.hbm, 146, rfl⟩
abbrev main_v57 : Ref sig .tc := ⟨.hbm, 147, rfl⟩
abbrev main_v58 : Ref sig .tc := ⟨.hbm, 148, rfl⟩
abbrev main_cst_16 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_cst_17 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_cst_18 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_call4_v0 : Ref sig .tc := ⟨.hbm, 162, rfl⟩
abbrev main_call4_cst : Ref sig .tc := ⟨.hbm, 163, rfl⟩
abbrev main_call4_c : Ref sig .tc := ⟨.hbm, 164, rfl⟩
abbrev main_call4_v1_0 : Ref sig .tc := ⟨.hbm, 165, rfl⟩
abbrev main_v69 : Ref sig .tc := ⟨.hbm, 166, rfl⟩
abbrev main_v70 : Ref sig .tc := ⟨.hbm, 167, rfl⟩
abbrev main_cst_19 : Ref sig .tc := ⟨.hbm, 168, rfl⟩
abbrev main_v71 : Ref sig .tc := ⟨.hbm, 169, rfl⟩
abbrev main_v72 : Ref sig .tc := ⟨.hbm, 170, rfl⟩
abbrev main_cst_20 : Ref sig .tc := ⟨.hbm, 171, rfl⟩
abbrev main_v73 : Ref sig .tc := ⟨.hbm, 172, rfl⟩
abbrev main_v74 : Ref sig .tc := ⟨.hbm, 173, rfl⟩
abbrev main_cst_21 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩

abbrev nD : Nat := 1
abbrev τ : Topo := Topo.v7x

variable {F : FTy → Type} [FloatOps F]
-- ==== Proof.BodyKernelIdeal.lean ====
/-
  The Pallas kernel of `KernelIdeal`, run one grid point at a time, and the run of its @main.

  A grid point takes a block of 512 patches (one row of 1024 lanes each) and the table of Gaussian
  weights, and leaves one block of 512 rows by 128 lanes. `out0_2` is that block as a function of
  the two that came in; `sound_kernel` is the body's execution; `run_main` is what @main leaves in
  every buffer that outlives the launch.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.Pipeline.FrameTail

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A device's buffer as the host operations before the launch leave it. -/
abbrev V (c : Dev nD) (b : Ref sig .tc) : Buf (Elt F) ((c : Thread nD τ).loc b) := StableHlo.after hostOps0 (fun b => m (c, b)) b

/-- The block window `w` reads at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patches' staging buffer holds its block when a grid point begins. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the table's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole block of patches. -/
abbrev r0_0 : Rect S512x1024 := Rect.unit (s := S512x1024) ![0, 0] S512x1024.size inb_S512x1024_S512x1024_0_0
/-- The whole table. -/
abbrev r0_1 : Rect S1x1024 := Rect.unit (s := S1x1024) ![0, 0] S1x1024.size inb_S1x1024_S1x1024_0_0
/-- The whole output block. -/
abbrev r0_2 : Rect S512x128 := Rect.unit (s := S512x128) ![0, 0] S512x128.size inb_S512x128_S512x128_0_0

/-- The histogram of a block: 36 masked sums side by side, each over the number of lanes. `m` is the
    weighted magnitude, `n / p` the bin as a real, `w` the share of the lower bin and `b` that bin. -/
def histOf (m n p : FVec F S512x1024 .f32) (w b : FVec F S512x1024 .f32) : FVec F S512x36 .f32 :=
  k0_pay51 w b (k0_pay14 m n p) (k0_pay15 m n p) (k0_pay16 m n p) (k0_pay18 (k0_pay17 m n p)) (k0_pay19 w b) (k0_pay20 w b) (k0_pay21 w b) (k0_pay22 w b)
    (k0_pay23 w b) (k0_pay24 w b) (k0_pay27 w (k0_pay25 b) (k0_pay26 (F := F))) (k0_pay28 w b) (k0_pay29 w b) (k0_pay30 w b) (k0_pay31 w b) (k0_pay32 w b)
    (k0_pay33 w b) (k0_pay35 w b (k0_pay34 (F := F))) (k0_pay36 w b) (k0_pay37 w b) (k0_pay38 w b) (k0_pay39 w b) (k0_pay40 w b) (k0_pay42 (k0_pay41 w b))
    (k0_pay43 w b) (k0_pay44 w b) (k0_pay45 w b) (k0_pay46 w b) (k0_pay47 w b) (k0_pay48 w b) (k0_pay49 b) (k0_pay50 (F := F))

/-- The same histogram moved one bin up, a zero in front. -/
def leftOf (m n p : FVec F S512x1024 .f32) (w b : FVec F S512x1024 .f32) : FVec F S512x36 .f32 :=
  k0_pay53 w b (k0_pay14 m n p) (k0_pay15 m n p) (k0_pay16 m n p) (k0_pay18 (k0_pay17 m n p)) (k0_pay19 w b) (k0_pay20 w b) (k0_pay21 w b) (k0_pay22 w b)
    (k0_pay23 w b) (k0_pay24 w b) (k0_pay27 w (k0_pay25 b) (k0_pay26 (F := F))) (k0_pay28 w b) (k0_pay29 w b) (k0_pay30 w b) (k0_pay31 w b) (k0_pay32 w b)
    (k0_pay33 w b) (k0_pay35 w b (k0_pay34 (F := F))) (k0_pay36 w b) (k0_pay37 w b) (k0_pay38 w b) (k0_pay39 w b) (k0_pay40 w b) (k0_pay42 (k0_pay41 w b))
    (k0_pay43 w b) (k0_pay44 w b) (k0_pay45 w b) (k0_pay46 w b) (k0_pay47 w b) (k0_pay48 w b) (k0_pay49 b) (k0_pay50 (F := F))

/-- The same histogram moved one bin down, a zero at the end. -/
def rightOf (m n p : FVec F S512x1024 .f32) (w b : FVec F S512x1024 .f32) : FVec F S512x36 .f32 :=
  k0_pay54 w b (k0_pay14 m n p) (k0_pay15 m n p) (k0_pay16 m n p) (k0_pay18 (k0_pay17 m n p)) (k0_pay19 w b) (k0_pay20 w b) (k0_pay21 w b) (k0_pay22 w b)
    (k0_pay23 w b) (k0_pay24 w b) (k0_pay27 w (k0_pay25 b) (k0_pay26 (F := F))) (k0_pay28 w b) (k0_pay29 w b) (k0_pay30 w b) (k0_pay31 w b) (k0_pay32 w b)
    (k0_pay33 w b) (k0_pay35 w b (k0_pay34 (F := F))) (k0_pay36 w b) (k0_pay37 w b) (k0_pay38 w b) (k0_pay39 w b) (k0_pay40 w b) (k0_pay42 (k0_pay41 w b))
    (k0_pay43 w b) (k0_pay44 w b) (k0_pay45 w b) (k0_pay46 w b) (k0_pay47 w b) (k0_pay48 w b) (k0_pay49 b) (k0_pay50 (F := F))

/-- The block of results from the magnitude `m` and the bin `n / p`. -/
def packedOf (m n p : FVec F S512x1024 .f32) : FVec F S512x128 .f32 :=
  k0_pay55 (iota .tc S1x1024 32 [1] iota_S1x1024_d1_w32) (k0_pay13 m n p) (histOf m n p (k0_pay11 m n p) (k0_pay12 n p))
    (leftOf m n p (k0_pay11 m n p) (k0_pay12 n p)) (rightOf m n p (k0_pay11 m n p) (k0_pay12 n p)) (Scalar.ofBits .f32 0x3EA8F5C3#32)

/-- The block of results from the 512 patches `x` and the table `g`. -/
def storedOf (x : FVec F S512x1024 .f32) (g : FVec F S1x1024 .f32) : FVec F S512x128 .f32 :=
  packedOf (k0_pay6 (k0_pay1 x) k0_pay2 k0_pay3 0#32 g) (k0_pay7 (k0_pay1 x) k0_pay2 k0_pay3 0#32) (k0_pay8 (F := F))

/-- What one grid point leaves in its output block. -/
def out0_2 (x0 : Vec F S512x1024 .f32) (x1 : Vec F S1x1024 .f32) : Vec F S512x128 .f32 :=
  View.canon [⟨r0_2, storedOf (View.ld x0 r0_0) (View.ld x1 r0_1)⟩]

/-- The one store covers the whole output block. -/
theorem cover0_2 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

set_option maxHeartbeats 1000000 in
/-- The body, run on whatever blocks it is given, leaves the inputs and writes `out0_2` of them. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S512x128 .f32) (harg3 : arg3.IsWhole)
    (x0 : Vec F S512x1024 .f32) (x1 : Vec F S1x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__body i arg1 harg1 arg2 harg2 arg3 harg3) K := by
  simp only [cc0__body_eq_skeleton]; unfold cc0__body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  dsimp only
  refine (View.read_writes_eq_canon _ _ _ (cover0_2 _)).trans ?_
  generalize hA : View.readAt (Elt F) arg1.view _ f0 = A
  generalize hB : View.readAt (Elt F) arg2.view _ f1 = B
  rw [out0_2, show View.ld (View.read (Elt F) arg1.view f0) r0_0 = A from hA,
    show View.ld (View.read (Elt F) arg2.view f1) r0_1 = B from hB]
  unfold storedOf packedOf histOf leftOf rightOf
  with_reducible rfl

/-- What each window's staging buffer holds after a grid point: the blocks read stay, the output is `out0_2`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays the launch begins from. -/
theorem A_eq (c : Dev nD) (w : Fin cfg0.W) : (dats m 0 c).A w = V m c (Pipeline.arrRef spec0 w) := rfl

/-- The block of patches stays. -/
theorem after0_0 (c : Dev nD) (t : Fin cfg0.N) : (dats m 0 c).after 0 t = iblk m c 0 t := by dsimp only [dats]
/-- The table stays. -/
theorem after0_1 (c : Dev nD) (t : Fin cfg0.N) : (dats m 0 c).after 1 t = iblk m c 1 t := by dsimp only [dats]
/-- The output block is `out0_2` of the two. -/
theorem after0_2 (c : Dev nD) (t : Fin cfg0.N) : (dats m 0 c).after 2 t = out0_2 (iblk m c 0 t) (iblk m c 1 t) := by dsimp only [dats]

/-- A grid point begins with its block of patches. -/
theorem before0_0 (c : Dev nD) (t : Fin cfg0.N) (d) : (dats m 0 c).before 0 t d = iblk m c 0 t :=
  before0_0_of m (dats m 0 c) (A_eq m c 0) (after0_0 m c) t d
/-- It begins with the table. -/
theorem before0_1 (c : Dev nD) (t : Fin cfg0.N) (d) : (dats m 0 c).before 1 t d = iblk m c 1 t :=
  before0_1_of m (dats m 0 c) (A_eq m c 1) (after0_1 m c) t d

/-- What a grid point is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What a grid point gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- A grid point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- So every grid point of the launch does. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run of @main: it ends, and each buffer that outlives the launch holds what the operations after
    the launch make of the arrays the launch left. -/
theorem run_main : θ_run defs (onTc (τ := τ) (main (F := F))) (s₀ m ρ) fun r => ∀ (c : Dev nD) (b : Ref sig .tc), b.isScoped = false →
    r.2.mem ((c.tc : Thread nD τ).loc b)
      = StableHlo.after hostOps1 (Pipeline.afterRegion (dats m 0 c) (StableHlo.after hostOps0 (StableHlo.launchContents m c))) (Proc.devRef .tc b) :=
  Pipeline.θ_run_frame_tail cfgs (dats m) (0 : Fin 1) launch0 defs₀ Variants.none m ρ main hostOps0 hostOps1 hostOps0_sub hostOps1_sub
    main_chain
    (hbody := fun c => (body_obligation m c).loose) (hshare := fun c => (dats m 0 c).share_full fun _ => rfl)
    (howed := fun _ _ => rfl) (hA := fun _ _ => rfl) (hΦ := fun _ _ => rfl)

end Cert.KernelIdeal.Body

end
-- ==== Proof.FrameKernelIdeal.lean ====
/-
  The end state of `KernelIdeal` as a whole: the argument is unchanged and every semaphore counter is back at zero.
-/
module

public import proofs.«01_k».proof.Defs
public import proofs.«01_k».proof.Proof.BodyKernelIdeal
public import Idealize.ShloMosaic.Lib.Pipeline.FrameSuffix
public import Idealize.ShloMosaic.Lib.StableHlo.RunRead
public import Idealize.ShloMosaic.Lib.Claim

@[expose] public section

set_option maxRecDepth 16384

noncomputable section

namespace Cert.KernelIdeal.Body

open Idealize.ShloMosaic Idealize.SL.Sem Cert.KernelIdeal.Gen

variable {F : FTy → Type} [FloatOps F]
variable (m : (ℓ : Loc nD τ sig) → Buf (Elt F) ℓ) (ρ : Dev nD → PrngReg)

/-- The buffers the operations after the launch write, in their order. -/
def writtenAfter : List (Ref sig .tc) :=
  [main_call0_v2, main_call0_v3, main_call0_v4, main_call0_v5, main_call0_v6, main_call0_values, main_call0_indices,
   main_call0_c, main_call0_v7, main_call0_v8, main_call0_c_1, main_call0_v9, main_call0_v10, main_call0_v11,
   main_call0_v12, main_call0_v13, main_call0_v14, main_call0_c_2, main_call0_call0_v0, main_call0_call0_v1,
   main_call0_call0_v2, main_call0_call0_v3, main_call0_call0_v4, main_call0_call0_v5, main_call0_call0_v6,
   main_call0_call0_v7, main_call0_call0_v8, main_call0_call0_v9, main_call0_call0_v10, main_call0_call0_v11,
   main_call0_call0_v12, main_call0_call0_v13, main_call0_call0_v14, main_call0_call0_v15, main_call0_call0_v16,
   main_call0_call0_v17, main_call0_call0_v18, main_call0_call0_v19, main_call0_call0_v20, main_call0_call0_v21,
   main_call0_call0_v22, main_call0_call0_v23, main_call0_call0_v24, main_call0_call0_v25, main_call0_call0_v26,
   main_call0_v15, main_call0_v16, main_call0_v17, main_call0_v18, main_call0_cst_3, main_call0_v19, main_call0_v20,
   main_call0_c_4, main_call0_call1_v0, main_call0_call1_v1, main_call0_call1_v2, main_call0_call1_v3,
   main_call0_call1_v4, main_call0_call1_v5, main_call0_call1_v6, main_call0_call1_v7, main_call0_call1_v8,
   main_call0_call1_v9, main_call0_call1_v10, main_call0_call1_v11, main_call0_call1_v12, main_call0_call1_v13,
   main_call0_call1_v14, main_call0_call1_v15, main_call0_call1_v16, main_call0_call1_v17, main_call0_call1_v18,
   main_call0_call1_v19, main_call0_call1_v20, main_call0_call1_v21, main_call0_call1_v22, main_call0_call1_v23,
   main_call0_call1_v24, main_call0_call1_v25, main_call0_call1_v26, main_call0_v21, main_call0_v22, main_call0_v23,
   main_call0_v24, main_call0_cst_5, main_call0_v25, main_call0_v26, main_call0_v27, main_call0_v28, main_call0_v29,
   main_call0_cst_6, main_call0_v30, main_call0_v31, main_call0_v32, main_call0_v33, main_call0_v34, main_call0_v35,
   main_call0_v36, main_call0_cst_7, main_call0_v37, main_call0_v38, main_call0_cst_8, main_call0_v39,
   main_call0_v40, main_call0_cst_9, main_call0_v41, main_call0_v42, main_call0_v43, main_call0_v44, main_call0_c_10,
   main_call0_call2_v0, main_call0_call2_v1, main_call0_call2_v2, main_call0_call2_cst, main_call0_call2_v3,
   main_call0_call2_v4, main_call0_call2_cst_0, main_call0_call2_v5, main_call0_call2_v6, main_call0_call2_cst_1,
   main_call0_call2_v7, main_call0_call2_v8, main_call0_call2_v9, main_call0_call2_v10, main_call0_call2_v11,
   main_call0_call2_v12, main_call0_v45, main_call0_v46, main_call0_cst_11, main_call0_v47, main_call0_v48,
   main_call0_v49, main_call0_v50, main_call0_v51, main_call0_cst_12, main_call0_v52, main_call0_v53, main_call0_v54,
   main_call0_c_13, main_call0_v55, main_call0_v56, main_call0_c_14, main_call0_v57, main_call0_v58, main_call0_v59,
   main_call0_c_15, main_call0_v60, main_call0_v61, main_call0_c_16, main_call0_v62, main_call0_v63, main_call0_v64,
   main_call0_v65, main_call0_v66, main_call0_v67, main_call0_v68, main_call0_v69, main_call0_cst_17, main_call0_v70,
   main_call0_v71, main_call0_c_18, main_call0_call3_v0, main_call0_v72, main_call0_v73, main_call0_cst_19,
   main_call0_v74, main_call0_v75, main_call0_v76, main_call0_cst_20, main_call0_v77, main_call0_v78, main_call0_v79,
   main_call0_v80, main_call0_cst_21, main_call0_v81, main_call0_v82, main_call0_v83, main_call0_call4_v0,
   main_call0_call4_cst, main_call0_call4_c, main_call0_call4_v1_0, main_call0_v84, main_call0_v85,
   main_call0_cst_22, main_call0_v86, main_call0_v87, main_call0_cst_23, main_call0_v88, main_call0_v89,
   main_call0_cst_24, main_call0_v90, main_call0_v91, main_call0_v92, main_call0_c_25, main_call0_v93,
   main_call0_v94, main_call0_c_26, main_call0_v95, main_call0_v96, main_call0_v97, main_call0_v98, main_v0]

set_option maxHeartbeats 4000000 in
/-- Each operation after the launch writes the one buffer listed for it. -/
theorem writtenAfter_eq : (hostOps1 : List (HloOp τ sig (Elt F))).map HloOp.writes
    = writtenAfter.map fun r => {Proc.devRef (τ := τ) .tc r} := rfl

/-- The buffers the operations before the launch write, in their order. -/
def writtenBefore : List (Ref sig .tc) := [main_call0_cst, main_call0_cst_0, main_call0_v0]

/-- Each operation before the launch writes the one buffer listed for it. -/
theorem writtenBefore_eq : (hostOps0 : List (HloOp τ sig (Elt F))).map HloOp.writes
    = writtenBefore.map fun r => {Proc.devRef (τ := τ) .tc r} := rfl

set_option maxHeartbeats 4000000 in
/-- No operation after the launch allocates. -/
theorem freshAfter : ∀ op ∈ (hostOps1 : List (HloOp τ sig (Elt F))), op.fresh = ∅ :=
  List.forall_iff_forall_mem.mp (StableHlo.forall_fresh_of_map rfl)

/-- No operation after the launch writes an array the launch stages. -/
theorem arrays_kept (w : Fin 3) : Pipeline.arrRef spec0 w ∉ writtenAfter := by
  revert w; decide +kernel

/-- The arrays the launch stages outlive it. -/
theorem arrays_unscoped (w : Fin 3) : (Pipeline.arrRef spec0 w).isScoped = false := by
  revert w; decide +kernel

set_option backward.isDefEq.respectTransparency.types false in
set_option maxHeartbeats 4000000 in
/-- After @main every semaphore counter of the machine is back at zero. -/
theorem run_counters : θ_run defs (onTc (τ := τ) (main (F := F))) (s₀ m ρ) fun r => r.2.sem = fun _ => 0 :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl)
    (V₀ := fun c => StableHlo.after [hostOps0].flatten (fun b => m (c, b))) (opss := [hostOps1])
    (hsub := fun ops ho op hop => by
      obtain rfl := List.mem_singleton.mp ho
      rw [Pipeline.tailRefs_none _ arrays_unscoped]
      exact Pipeline.sub_ucRefs op (List.forall_iff_forall_mem.mp hostOps1_sub op hop))
    (hfresh := fun ops ho => by
      obtain rfl := List.mem_singleton.mp ho
      exact freshAfter)
    (hkeep := fun ops ho op hop w hb => by
      obtain rfl := List.mem_singleton.mp ho
      have hW := StableHlo.forall_writes_sub_of_map (writtenAfter_eq (F := F))
      obtain ⟨y, hy, he⟩ := List.mem_map.mp (List.mem_toFinset.mp (List.forall_iff_forall_mem.mp hW op hop hb))
      exact arrays_kept w (Proc.devRef_injective _ he ▸ hy))
    (hmain := Pipeline.hmain_around cfgs (0 : Fin 1) defs₀ Variants.none m main [hostOps0] [hostOps1]
      hostOps0_sub (StableHlo.forall_fresh_of_map (ops := hostOps0) rfl) main_chain)
    (hA := fun _ _ => rfl) (hΦ := fun _ _ => rfl)
    (Q' := fun r => r.2.sem = fun _ => 0) (hQ' := fun _ h => h.2)

/-- The argument's buffer is none of the arrays the launch stages. -/
theorem arg0_not_arr (w : Fin 3) : main_arg0 ≠ Pipeline.arrRef spec0 w := by
  revert w; decide +kernel

/-- @main leaves its argument as it was. -/
theorem arg0_kept (c : Dev nD) :
    StableHlo.after hostOps1 (Pipeline.afterRegion (dats m 0 c) (StableHlo.after hostOps0 (StableHlo.launchContents m c)))
      (Proc.devRef .tc main_arg0) = m ((c.tc : Thread nD τ).loc main_arg0) := by
  rw [StableHlo.after_unwritten writtenAfter writtenAfter_eq (by decide +kernel),
    Pipeline.afterRegion_of_not_arr _ _ arg0_not_arr,
    StableHlo.after_unwritten writtenBefore writtenBefore_eq (by decide +kernel)]

end Cert.KernelIdeal.Body

namespace Cert.Proof

open Idealize.ShloMosaic Idealize.SL.Sem Cert.KernelIdeal Cert.KernelIdeal.Gen

/-- `KernelIdeal` ends with its argument unchanged and every counter at zero. -/
theorem frame_KernelIdeal : Cert.quiescent_KernelIdeal := by
  intro m g _
  refine MeshRun.mono ?_ (θ_run_and (Body.run_main m g) (Body.run_counters m g))
  exact fun r h => ⟨fun c => (h.1 c main_arg0 rfl).trans (Body.arg0_kept m c), h.2⟩

end Cert.Proof

end
-- ==== Proof.FrameReference.lean ====
/-
  The end state of `ReferenceIdeal`: the argument is unchanged and every semaphore counter is back at zero.
-/
module

public import proofs.«01_k».proof.Defs
public import proofs.«01_k».proof.Proof.Gen.ReferenceIdeal
public import Idealize.ShloMosaic.Lib.Claim

@[expose] public section

set_option maxRecDepth 16384

noncomputable section

namespace Cert.Proof

open Idealize.ShloMosaic Idealize.SL.Sem

set_option maxHeartbeats 8000000 in
/-- `ReferenceIdeal` ends with its argument unchanged and every counter at zero. -/
theorem frame_ReferenceIdeal : Cert.quiescent_ReferenceIdeal := by
  intro m g _
  refine (θ_run Cert.ReferenceIdeal.defs _ _).mono (fun r h => ⟨h, Idealize.ShloMosaic.sem_eq_zero_of_no_sems (by decide) r.2⟩) (?_ : θ_run _ _ _ fun r => ∀ c : Dev Cert.ReferenceIdeal.nD,
    r.2.mem ((c.tc : Thread Cert.ReferenceIdeal.nD Cert.ReferenceIdeal.τ).loc Cert.ReferenceIdeal.main_arg0)
      = m ((c.tc : Thread Cert.ReferenceIdeal.nD Cert.ReferenceIdeal.τ).loc Cert.ReferenceIdeal.main_arg0))
  hlo_run

end Cert.Proof

end
-- ==== Proof.LineReads.lean ====
/-
  How three operations of a line of host operations are read: a concatenation of three values, a reshape, a scatter.
-/
module

public import Idealize.ShloMosaic.PureOps.Ideal.Laws
public import Idealize.ShloMosaic.Lib.StableHlo.RunRead

@[expose] public section

noncomputable section

namespace Cert.Orient

open Idealize.ShloMosaic Idealize.SL.Sem

variable {τ : Topo} {sig : RefSig}

/-- The first of three operands, read. -/
theorem cons0 {T0 T1 T2 : BufTy} (t0 : StableHlo.TRef sig T0) (t1 : StableHlo.TRef sig T1) (t2 : StableHlo.TRef sig T2)
    (G : Valuation τ sig (Elt Ideal)) :
    (Fin.cons (α := fun k => StableHlo.TRef sig ((![T0, T1, T2] : Fin 3 → BufTy) k)) t0 (Fin.cons t1 (Fin.cons t2 (fun k => k.elim0))) 0).ofBuf
      (G (Proc.devRef .tc (Fin.cons (α := fun k => StableHlo.TRef sig ((![T0, T1, T2] : Fin 3 → BufTy) k)) t0 (Fin.cons t1 (Fin.cons t2 (fun k => k.elim0))) 0).ref))
    = t0.ofBuf (G (Proc.devRef .tc t0.ref)) := rfl
/-- The second of three operands, read. -/
theorem cons1 {T0 T1 T2 : BufTy} (t0 : StableHlo.TRef sig T0) (t1 : StableHlo.TRef sig T1) (t2 : StableHlo.TRef sig T2)
    (G : Valuation τ sig (Elt Ideal)) :
    (Fin.cons (α := fun k => StableHlo.TRef sig ((![T0, T1, T2] : Fin 3 → BufTy) k)) t0 (Fin.cons t1 (Fin.cons t2 (fun k => k.elim0))) 1).ofBuf
      (G (Proc.devRef .tc (Fin.cons (α := fun k => StableHlo.TRef sig ((![T0, T1, T2] : Fin 3 → BufTy) k)) t0 (Fin.cons t1 (Fin.cons t2 (fun k => k.elim0))) 1).ref))
    = t1.ofBuf (G (Proc.devRef .tc t1.ref)) := rfl
/-- The third of three operands, read. -/
theorem cons2 {T0 T1 T2 : BufTy} (t0 : StableHlo.TRef sig T0) (t1 : StableHlo.TRef sig T1) (t2 : StableHlo.TRef sig T2)
    (G : Valuation τ sig (Elt Ideal)) :
    (Fin.cons (α := fun k => StableHlo.TRef sig ((![T0, T1, T2] : Fin 3 → BufTy) k)) t0 (Fin.cons t1 (Fin.cons t2 (fun k => k.elim0))) 2).ofBuf
      (G (Proc.devRef .tc (Fin.cons (α := fun k => StableHlo.TRef sig ((![T0, T1, T2] : Fin 3 → BufTy) k)) t0 (Fin.cons t1 (Fin.cons t2 (fun k => k.elim0))) 2).ref))
    = t2.ofBuf (G (Proc.devRef .tc t2.ref)) := rfl
/-- A reshape's result, as contents of the value's type. -/
theorem reshape_ref {s t : Shape} {e : EltTy} (x : StableHlo.TRef sig ⟨s, e⟩) (y : StableHlo.TRef sig ⟨t, e⟩) (he) (hn : s.ShapeCasts t)
    (W : Valuation τ sig (Elt Ideal)) :
    (StableHlo.TRef.reshape (τ := τ) (Val := Elt Ideal) x y he hn).result W (no_index (Proc.devRef .tc y.ref))
      = y.toBuf (shapeCast t (x.ofBuf (W (Proc.devRef .tc x.ref))) hn) := by
  rw [StableHlo.reshape_result']
  generalize W (Proc.devRef .tc x.ref) = w
  have key : ∀ (X Y : BufTy) (hx : X = ⟨s, e⟩) (hy : Y = ⟨t, e⟩) (w : X.Contents (Elt Ideal)) (he : X.elt = Y.elt) (hn' : X.shape.ShapeCasts Y.shape),
      (fun i => he ▸ shapeCast Y.shape w hn' i : Y.Contents (Elt Ideal))
        = cast (congrArg (fun U : BufTy => U.Contents (Elt Ideal)) hy.symm)
          (shapeCast t (cast (congrArg (fun U : BufTy => U.Contents (Elt Ideal)) hx) w : (⟨s, e⟩ : BufTy).Contents (Elt Ideal)) hn) := by
    rintro X Y rfl rfl w he hn'
    rfl
  exact key _ _ x.ty_eq y.ty_eq w _ _

/-- A scatter of equal operands, indices and updates is the same. -/
theorem scatter_congr {α : Type} {s si u : Shape} {w : Nat} {d : ScatterDims s si u} {f : α → α → α} {x x' : s.Idx → α} {i i' : IVec si w} {v v' : u.Idx → α}
    (hx : x = x') (hi : i = i') (hv : v = v') : Host.scatter d f x i v = Host.scatter d f x' i' v' := by rw [hx, hi, hv]
end Cert.Orient

end
-- ==== Proof.LineLaunch.lean ====
/-
  What the host operations before the launch leave in the arrays that the launch and the operations after it read.
-/
module

public import proofs.«01_k».proof.Proof.BodyKernelIdeal
public import proofs.«01_k».proof.Proof.LineReads
public import Idealize.ShloMosaic.Lib.StableHlo.RunRead

@[expose] public section

set_option maxRecDepth 1000000

noncomputable section

namespace Cert.KernelIdeal.Body

open Cert.KernelIdeal Cert.KernelIdeal.Gen Cert.Orient
open Idealize.ShloMosaic

variable (m : (ℓ : Loc nD τ sig) → Buf (Elt Ideal) ℓ)

/-- The patches, one row each. -/
theorem before_rows (c : Dev nD) : (StableHlo.after hostOps0 (StableHlo.launchContents m c) (Proc.devRef .tc main_call0_v0) : FVec Ideal S65536x1024 .f32)
    = shapeCast S65536x1024 (m ((c.tc : Thread nD τ).loc main_arg0) : FVec Ideal S65536x1x32x32 .f32) Facts₀.shapeCasts_S65536x1x32x32_S65536x1024 := by
  after_reads_simp [StableHlo.TRef.ofBuf_toBuf, ↓reshape_ref]
  rfl

/-- The table as one row. -/
theorem before_table (c : Dev nD) : (StableHlo.after hostOps0 (StableHlo.launchContents m c) (Proc.devRef .tc main_call0_cst) : FVec Ideal S1x1024 .f32)
    = fun i => Ideal.ofBits .f32 (lit0 (S1x1024.rowMajor i)) := by
  after_reads_simp
  rfl

/-- The table as a square. -/
theorem before_window (c : Dev nD) : (StableHlo.after hostOps0 (StableHlo.launchContents m c) (Proc.devRef .tc main_call0_cst_0) : FVec Ideal S32x32 .f32)
    = fun i => Ideal.ofBits .f32 (lit1 (S32x32.rowMajor i)) := by
  after_reads_simp
  rfl

end Cert.KernelIdeal.Body

end
-- ==== Proof.PiBound.lean ====
/-
  The float nearest to π lies above it: its cosine series at a quarter of it falls below the cosine of π/4.
-/
module

public import Idealize.ShloMosaic.PureOps.Ideal.Laws

@[expose] public section

noncomputable section

namespace Cert.Orient

/-- The cosine of a number in `[0, 1]` is at most its series up to the tenth power, with a bound on the rest. -/
theorem cos_le_series (y : ℝ) (h0 : 0 ≤ y) (h1 : y ≤ 1) :
    Real.cos y ≤ 1 - y ^ 2 / 2 + y ^ 4 / 24 - y ^ 6 / 720 + y ^ 8 / 40320 - y ^ 10 / 3628800 + 1 / 5000000000 * y ^ 12 * 12 := by
  have hn : ‖(y : ℂ) * Complex.I‖ = y := by simp [abs_of_nonneg h0]
  have hb := Complex.exp_bound (x := (y : ℂ) * Complex.I) (by rw [hn]; exact h1) (n := 12) (by norm_num)
  rw [hn] at hb
  have hs : (∑ m ∈ Finset.range 12, ((y : ℂ) * Complex.I) ^ m / (m.factorial : ℂ))
      = ((1 - y ^ 2 / 2 + y ^ 4 / 24 - y ^ 6 / 720 + y ^ 8 / 40320 - y ^ 10 / 3628800 : ℝ) : ℂ)
        + ((y - y ^ 3 / 6 + y ^ 5 / 120 - y ^ 7 / 5040 + y ^ 9 / 362880 - y ^ 11 / 39916800 : ℝ) : ℂ) * Complex.I := by
    have i2 : Complex.I ^ 2 = -1 := Complex.I_sq
    have i3 : Complex.I ^ 3 = -Complex.I := Complex.I_pow_three
    have i4 : Complex.I ^ 4 = 1 := Complex.I_pow_four
    have i5 : Complex.I ^ 5 = Complex.I := by rw [pow_succ, i4, one_mul]
    have i6 : Complex.I ^ 6 = -1 := by rw [show 6 = 4 + 2 from rfl, pow_add, i4, i2, one_mul]
    have i7 : Complex.I ^ 7 = -Complex.I := by rw [show 7 = 4 + 3 from rfl, pow_add, i4, i3, one_mul]
    have i8 : Complex.I ^ 8 = 1 := by rw [show 8 = 4 + 4 from rfl, pow_add, i4, one_mul]
    have i9 : Complex.I ^ 9 = Complex.I := by rw [pow_succ, i8, one_mul]
    have i10 : Complex.I ^ 10 = -1 := by rw [show 10 = 8 + 2 from rfl, pow_add, i8, i2, one_mul]
    have i11 : Complex.I ^ 11 = -Complex.I := by rw [show 11 = 8 + 3 from rfl, pow_add, i8, i3, one_mul]
    simp only [Finset.sum_range_succ, Finset.sum_range_zero, Nat.factorial, mul_pow, i2, i3, i4, i5, i6, i7, i8, i9, i10, i11]
    push_cast
    ring
  rw [hs] at hb
  have hr := (Complex.abs_re_le_norm _).trans hb
  rw [Complex.sub_re, Complex.exp_ofReal_mul_I_re, Complex.add_re, Complex.ofReal_re, Complex.re_ofReal_mul, Complex.I_re, mul_zero, add_zero] at hr
  have hr' := (abs_le.1 hr).2
  have hf : (((Nat.succ 12 : ℕ) : ℝ) * (((Nat.factorial 12 : ℕ) : ℝ) * ((12 : ℕ) : ℝ))⁻¹) ≤ 1 / 5000000000 * 12 := by
    norm_num [Nat.factorial]
  have hy : 0 ≤ y ^ 12 := by positivity
  have := mul_le_mul_of_nonneg_left hf hy
  linarith

/-- The float nearest to π is larger than π. -/
theorem pi_lt_float : Real.pi < 13176795 / 4194304 := by
  by_contra h
  have hc : Real.cos (Real.pi / 4) ≤ Real.cos (13176795 / 16777216) :=
    Real.cos_le_cos_of_nonneg_of_le_pi (by norm_num) (by have := Real.pi_pos; linarith) (by linarith)
  rw [Real.cos_pi_div_four] at hc
  have hs := cos_le_series (13176795 / 16777216) (by norm_num) (by norm_num)
  have h2 := hc.trans hs
  have h3 : Real.sqrt 2 ≤ 1.41421356 := by
    norm_num at h2
    linarith
  have h4 := Real.mul_self_sqrt (show (0 : ℝ) ≤ 2 by norm_num)
  have h5 := Real.sqrt_nonneg 2
  nlinarith

end Cert.Orient

end
-- ==== Proof.Spec.lean ====
/-
  The orientation of one patch, in mathematics: a patch is 1024 values in row-major order, 32 to a row.
  Each pixel has a gradient from its clamped neighbours; its direction, in 36ths of a full turn, names a bin, and its weight
  goes into that bin; the 36 bin sums are smoothed and the angle of the first largest is the orientation.
-/
module

public import Idealize.ShloMosaic.PureOps.Ideal.Laws
public import proofs.«01_k».proof.Proof.PiBound

@[expose] public section

set_option maxRecDepth 16384

noncomputable section

namespace Cert.Orient

open Idealize.ShloMosaic

/-- The real that a float word stands for. -/
abbrev word (w : BitVec 32) : EReal := Ideal.ofBits .f32 w

/-- The largest whole number below, the infinities kept. -/
abbrev flr (x : EReal) : EReal := Ideal.liftRound Int.floor x

/-- The pixel left of `l`, or `l` itself in the first column. -/
def leftOf (l : Fin 1024) : Fin 1024 := if l.val % 32 = 0 then l else ⟨l.val - 1, by omega⟩
/-- The pixel right of `l`, or `l` itself in the last column. -/
def rightOf (l : Fin 1024) : Fin 1024 := if h : l.val % 32 = 31 then l else ⟨l.val + 1, by omega⟩
/-- The pixel above `l`, or `l` itself in the first row. -/
def aboveOf (l : Fin 1024) : Fin 1024 := if l.val / 32 = 0 then l else ⟨l.val - 32, by omega⟩
/-- The pixel below `l`, or `l` itself in the last row. -/
def belowOf (l : Fin 1024) : Fin 1024 := if h : l.val / 32 = 31 then l else ⟨l.val + 32, by omega⟩

/-- Half the difference of the left and the right neighbour. -/
def gradX (x : Fin 1024 → EReal) (l : Fin 1024) : EReal := word 0x3F000000#32 * (x (leftOf l) - x (rightOf l))
/-- Half the difference of the upper and the lower neighbour. -/
def gradY (x : Fin 1024 → EReal) (l : Fin 1024) : EReal := word 0x3F000000#32 * (x (aboveOf l) - x (belowOf l))

/-- The direction of the gradient `(a, b)` in 36ths of a turn. -/
def turn (a b : EReal) : EReal :=
  Ideal.div (word 0x42100000#32 * (Ideal.atan2 b a + word 0x40490FDB#32)) (word 0x40C90FDB#32)
/-- The length of the gradient `(a, b)` times the window `g`. -/
def mag (a b g : EReal) : EReal := Ideal.sqrt (a * a + b * b + word 0x2EDBE6FF#32) * g
/-- The part of that length which goes to the lower of the two bins next to the direction. -/
def weight (a b g : EReal) : EReal := (word 0x3F800000#32 - (turn a b - flr (turn a b))) * mag a b g

/-- The weight in bin `k`, averaged over the patch whose gradients are `u` and `v`. -/
def hist (u v g : Fin 1024 → EReal) (k : Fin 36) : EReal :=
  (∑ l, if flr (turn (u l) (v l)) = ((k.val : ℝ) : EReal) then weight (u l) (v l) (g l) else 0) * ((1 / 1024 : ℝ) : EReal)

/-- The three-term smoothing of a histogram, the outside read as zero. -/
def smooth (h : Fin 36 → EReal) (k : Fin 36) : EReal :=
  word 0x3EA8F5C3#32 * (if hk : 1 ≤ k.val then h ⟨k.val - 1, by omega⟩ else 0) + word 0x3EAE147B#32 * h k
    + word 0x3EA8F5C3#32 * (if hk : k.val < 35 then h ⟨k.val + 1, by omega⟩ else 0)

/-- `n` is where `s` is first at its largest. -/
def IsFirstMax (s : Fin 36 → EReal) (n : Fin 36) : Prop := (∀ j, s j ≤ s n) ∧ ∀ j, j < n → s j < s n

/-- There is one such place at most. -/
theorem IsFirstMax.unique {s : Fin 36 → EReal} {n n' : Fin 36} (h : IsFirstMax s n) (h' : IsFirstMax s n') : n = n' := by
  rcases lt_trichotomy n n' with q | q | q
  · exact absurd (h.1 n') (not_le.2 (h'.2 n q))
  · exact q
  · exact absurd (h'.1 n) (not_le.2 (h.2 n' q))

/-- The angle of bin `n`. -/
def angle (n : Fin 36) : EReal :=
  -(Ideal.div (word 0x40C90FDB#32 * ((n.val : ℝ) : EReal)) (word 0x42100000#32) - word 0x40490FDB#32)

/-- `a` is the orientation of the patch `x` seen through the window `g`. -/
def IsOrientation (x g : Fin 1024 → EReal) (a : EReal) : Prop :=
  ∃ n, IsFirstMax (smooth (hist (gradX x) (gradY x) g)) n ∧ a = angle n

/-- A patch has one orientation. -/
theorem IsOrientation.unique {x g : Fin 1024 → EReal} {a a' : EReal} (h : IsOrientation x g a) (h' : IsOrientation x g a') : a = a' := by
  obtain ⟨n, hn, rfl⟩ := h
  obtain ⟨n', hn', rfl⟩ := h'
  rw [hn.unique hn']

/-! ## The constants -/

theorem word_one : word 0x3F800000#32 = ((1 : ℝ) : EReal) := by simp [word, Ideal.ofBits, Ideal.ieee, -EReal.coe_mul]; norm_num
theorem word_36 : word 0x42100000#32 = ((36 : ℝ) : EReal) := by
  simp [word, Ideal.ofBits, Ideal.ieee, -EReal.coe_mul]; norm_num
theorem word_1024 : word 0x44800000#32 = ((1024 : ℝ) : EReal) := by
  simp [word, Ideal.ofBits, Ideal.ieee, -EReal.coe_mul]; norm_num
theorem word_inv1024 : word 0x3A800000#32 = ((1 / 1024 : ℝ) : EReal) := by
  simp [word, Ideal.ofBits, Ideal.ieee, -EReal.coe_mul]; norm_num
theorem word_pi : word 0x40490FDB#32 = ((13176795 / 4194304 : ℝ) : EReal) := by
  simp [word, Ideal.ofBits, Ideal.ieee, -EReal.coe_mul]; norm_num
theorem word_twoPi : word 0x40C90FDB#32 = ((13176795 / 2097152 : ℝ) : EReal) := by
  simp [word, Ideal.ofBits, Ideal.ieee, -EReal.coe_mul]; norm_num

/-! ## The bin of a direction -/

/-- The angle of a point lies in `(-π, π]` if both coordinates are finite; otherwise it is `⊥`. -/
theorem atan2_range (b a : EReal) : Ideal.atan2 b a = ⊥ ∨ ∃ t : ℝ, Ideal.atan2 b a = t ∧ -Real.pi ≤ t ∧ t ≤ Real.pi := by
  have hp := Real.pi_pos
  cases b with
  | bot => exact Or.inl rfl
  | top => exact Or.inl rfl
  | coe y =>
    cases a with
    | bot => exact Or.inl rfl
    | top => exact Or.inl rfl
    | coe x =>
      refine Or.inr ⟨_, rfl, ?_⟩
      have h1 := Real.neg_pi_div_two_lt_arctan (y / x)
      have h2 := Real.arctan_lt_pi_div_two (y / x)
      split_ifs with c1 c2 c3 c4 c5
      · constructor <;> linarith
      · have : Real.arctan (y / x) ≤ 0 := by
          rw [← Real.arctan_zero]
          exact Real.arctan_mono (div_nonpos_of_nonneg_of_nonpos c3 c2.le)
        constructor <;> linarith
      · have : 0 ≤ Real.arctan (y / x) := by
          rw [← Real.arctan_zero]
          exact Real.arctan_mono (div_nonneg_of_nonpos (not_le.1 c3).le c2.le)
        constructor <;> linarith
      all_goals constructor <;> linarith

/-- The direction in 36ths is `⊥` or in one of the 36 bins. -/
theorem flr_turn (a b : EReal) : flr (turn a b) = ⊥ ∨ ∃ n : Fin 36, flr (turn a b) = ((n.val : ℝ) : EReal) := by
  rcases atan2_range b a with h | ⟨t, h, h1, h2⟩
  · left
    simp only [turn, h, word_36, word_twoPi, EReal.bot_add]
    rw [EReal.coe_mul_bot_of_pos (by norm_num), Ideal.div_coe (by norm_num), EReal.bot_mul_coe_of_pos (by norm_num)]
    rfl
  · right
    have hhi := pi_lt_float
    have e : turn a b = ((36 * (t + 13176795 / 4194304) * (1 / (13176795 / 2097152)) : ℝ) : EReal) := by
      simp only [turn, h, word_36, word_twoPi, word_pi]
      rw [Ideal.div_coe (by norm_num)]
      norm_cast
    have h0 : 0 ≤ 36 * (t + 13176795 / 4194304) * (1 / (13176795 / 2097152)) := by
      have : 0 ≤ t + 13176795 / 4194304 := by linarith
      positivity
    have h3 : 36 * (t + 13176795 / 4194304) * (1 / (13176795 / 2097152)) < 36 := by linarith
    rw [e]
    set r := 36 * (t + 13176795 / 4194304) * (1 / (13176795 / 2097152))
    have hn : 0 ≤ ⌊r⌋ := Int.floor_nonneg.2 h0
    have hn' : ⌊r⌋ < 36 := Int.floor_lt.2 (by exact_mod_cast h3)
    refine ⟨⟨⌊r⌋.toNat, by omega⟩, ?_⟩
    show ((⌊r⌋ : ℝ) : EReal) = _
    have : ((⌊r⌋.toNat : ℕ) : ℤ) = ⌊r⌋ := Int.toNat_of_nonneg hn
    have q : ((⌊r⌋.toNat : ℕ) : ℝ) = (⌊r⌋ : ℝ) := by exact_mod_cast congrArg (Int.cast : ℤ → ℝ) this
    exact congrArg _ q.symm

/-- Folding a bin that is too large back to zero changes nothing: there is none. -/
theorem fold_flr_turn (a b : EReal) :
    Scalar.select (Ideal.cmp .oge (flr (turn a b)) (word 0x42100000#32)) (0 : EReal) (flr (turn a b)) = flr (turn a b) := by
  have : ¬ word 0x42100000#32 ≤ flr (turn a b) := by
    rw [word_36]
    rcases flr_turn a b with h | ⟨n, h⟩
    · rw [h]; exact not_le.2 (EReal.bot_lt_coe _)
    · rw [h, EReal.coe_le_coe_iff, not_le]
      exact_mod_cast n.isLt
  simp [Ideal.cmp, this, Scalar.select]

end Cert.Orient

end
-- ==== Proof.BlockHist.lean ====
/-
  One block of 512 patches inside the Pallas kernel, read at a patch: the gradients from rotated lanes, and the 36 masked sums
  set side by side.
-/
module

public import proofs.«01_k».proof.Proof.BodyKernelIdeal
public import proofs.«01_k».proof.Proof.Spec
public import Idealize.ShloMosaic.Lib.Pointwise

@[expose] public section

set_option maxRecDepth 65536

noncomputable section

namespace Cert.KernelIdeal.Body

open Cert.KernelIdeal Cert.KernelIdeal.Gen Cert.Orient
open Idealize.ShloMosaic

/-- Floats of a shape. -/
abbrev Fx (s : Shape) : Type := FVec Ideal s .f32

/-- Row `r` of a block. -/
def row {α : Type} (x : S512x1024.Idx → α) (r : Fin 512) (l : Fin 1024) : α := x (ix2 r l)

/-! ## The gradients -/

/-- The column of a lane. -/
theorem pay2_apply : ∀ l : Fin 1024, k0_pay2 (ix2 (0 : Fin 1) l) = BitVec.ofNat 32 (l.val % 32) := by decide +kernel
/-- The row of a lane. -/
theorem pay3_apply : ∀ l : Fin 1024, k0_pay3 (ix2 (0 : Fin 1) l) = BitVec.ofNat 32 (l.val / 32) := by decide +kernel

/-- A rotated lane. -/
theorem rotate_apply (n : BitVec 32) (x : Fx S512x1024) (r : Fin 512) (l : Fin 1024) :
    dynamicRotate 1 n none x rotates_S512x1024_d1 (ix2 r l) = x (ix2 r ⟨(l.val + 1024 - n.toNat % 1024) % 1024, by omega⟩) := by
  refine congrArg x (funext fun b => ?_)
  fin_cases b <;> rfl

/-- A word below 32 equals another exactly when the numbers are equal. -/
theorem cmp_word (n : ℕ) (hn : n < 32) (k : ℕ) (hk : k < 32) :
    IntOp.cmpi .eq (BitVec.ofNat 32 n) (BitVec.ofNat 32 k) = BitVec.ofBool (decide (n = k)) := by
  have : (BitVec.ofNat 32 n = BitVec.ofNat 32 k) ↔ n = k := by
    constructor
    · intro h
      have := congrArg BitVec.toNat h
      simp only [BitVec.toNat_ofNat] at this
      omega
    · rintro rfl; rfl
  show BitVec.ofBool (BitVec.ofNat 32 n == BitVec.ofNat 32 k) = _
  congr 1
  by_cases q : n = k
  · simp [q]
  · simp [q, mt this.1 q]

/-- A lane, or the lane `n` further round where a row's or a column's end does not stop it. -/
theorem neighbour_apply (v : IVec S1x1024 32) (f : ℕ) (hf : f < 32) (k : ℕ) (hk : k < 32) (n : BitVec 32) (x : Fx S512x1024) (r : Fin 512)
    (l : Fin 1024) (hv : v (ix2 (0 : Fin 1) l) = BitVec.ofNat 32 f) :
    select (broadcastTo S512x1024 (shapeCast S1x1024 (cmpi .eq v (broadcast S1x1024 (BitVec.ofNat 32 k))) shapeCasts_S1x1024_S1x1024)
      broadcasts_S1x1024_S512x1024) x (dynamicRotate 1 n none x rotates_S512x1024_d1) (ix2 r l)
      = if f = k then row x r l else row x r ⟨(l.val + 1024 - n.toNat % 1024) % 1024, by omega⟩ := by
  show Scalar.select (broadcastTo S512x1024 _ broadcasts_S1x1024_S512x1024 (ix2 r l)) (x (ix2 r l)) (dynamicRotate 1 n none x _ (ix2 r l)) = _
  rw [rotate_apply, broadcastTo_apply _ _ _ (ix2 (0 : Fin 1) l) (by intro a; fin_cases a <;> rfl), shapeCast_apply _ _ _ (ix2 (0 : Fin 1) l) rfl]
  show Scalar.select (IntOp.cmpi .eq (v (ix2 (0 : Fin 1) l)) (BitVec.ofNat 32 k)) _ _ = _
  rw [hv, cmp_word f hf k hk]
  by_cases q : f = k
  · simp [q, Scalar.select, row]
  · simp [q, Scalar.select, row]

theorem pay4_apply (x : Fx S512x1024) (r : Fin 512) (l : Fin 1024) : k0_pay4 x k0_pay2 0#32 (ix2 r l) = gradX (row x r) l := by
  have h0 := neighbour_apply k0_pay2 (l.val % 32) (by omega) 0 (by omega) 1#32 x r l (pay2_apply l)
  have h1 := neighbour_apply k0_pay2 (l.val % 32) (by omega) 31 (by omega) 1023#32 x r l (pay2_apply l)
  refine (congrArg₂ (fun a c : EReal => word 0x3F000000#32 * (a - c)) h0 h1).trans ?_
  unfold gradX
  congr 2
  · unfold Orient.leftOf
    split_ifs with q
    · rfl
    · refine congrArg (row x r) (Fin.ext ?_); show (l.val + 1024 - 1 % 1024) % 1024 = l.val - 1; omega
  · unfold Orient.rightOf
    split_ifs with q
    · rfl
    · refine congrArg (row x r) (Fin.ext ?_); show (l.val + 1024 - 1023 % 1024) % 1024 = l.val + 1; omega

theorem pay5_apply (x : Fx S512x1024) (r : Fin 512) (l : Fin 1024) : k0_pay5 x k0_pay3 (ix2 r l) = gradY (row x r) l := by
  have h0 := neighbour_apply k0_pay3 (l.val / 32) (by omega) 0 (by omega) 32#32 x r l (pay3_apply l)
  have h1 := neighbour_apply k0_pay3 (l.val / 32) (by omega) 31 (by omega) 992#32 x r l (pay3_apply l)
  refine (congrArg₂ (fun a c : EReal => word 0x3F000000#32 * (a - c)) h0 h1).trans ?_
  unfold gradY
  congr 2
  · unfold Orient.aboveOf
    split_ifs with q
    · rfl
    · refine congrArg (row x r) (Fin.ext ?_); show (l.val + 1024 - 32 % 1024) % 1024 = l.val - 32; omega
  · unfold Orient.belowOf
    split_ifs with q
    · rfl
    · refine congrArg (row x r) (Fin.ext ?_); show (l.val + 1024 - 992 % 1024) % 1024 = l.val + 32; omega

/-! ## Directions and weights -/

/-- The table as values in row-major order. -/
def flatTable (g : Fx S1x1024) (l : Fin 1024) : EReal := g (ix2 (0 : Fin 1) l)

/-- The magnitudes of the block `x`. -/
abbrev magOf (x : Fx S512x1024) (g : Fx S1x1024) : Fx S512x1024 := k0_pay6 (k0_pay1 x) k0_pay2 k0_pay3 0#32 g
/-- The directions of the block `x`, before the division by a full turn. -/
abbrev dirOf (x : Fx S512x1024) : Fx S512x1024 := k0_pay7 (k0_pay1 x) k0_pay2 k0_pay3 0#32

theorem pay1_eq (x : Fx S512x1024) : k0_pay1 x = x := funext fun i => shapeCast_apply _ _ _ i rfl

/-- The direction at a lane. -/
theorem turn_apply (x : Fx S512x1024) (r : Fin 512) (l : Fin 1024) :
    k0_pay9 (dirOf x) k0_pay8 (ix2 r l) = turn (gradX (row x r) l) (gradY (row x r) l) := by
  unfold dirOf
  rw [pay1_eq, ← pay4_apply, ← pay5_apply]
  rfl

/-- The bin at a lane. -/
theorem bin_apply (x : Fx S512x1024) (r : Fin 512) (l : Fin 1024) :
    k0_pay12 (dirOf x) k0_pay8 (ix2 r l) = flr (turn (gradX (row x r) l) (gradY (row x r) l)) := by
  have e : k0_pay12 (dirOf x) k0_pay8 (ix2 r l)
      = Scalar.select (Ideal.cmp .oge (flr (k0_pay9 (dirOf x) k0_pay8 (ix2 r l))) (word 0x42100000#32)) (word 0x00000000#32)
        (flr (k0_pay9 (dirOf x) k0_pay8 (ix2 r l))) := rfl
  rw [e, turn_apply, show word 0x00000000#32 = 0 from Ideal.ofBits_zero_f32, fold_flr_turn]

/-- The weight at a lane. -/
theorem weight_apply (x : Fx S512x1024) (g : Fx S1x1024) (r : Fin 512) (l : Fin 1024) :
    k0_pay11 (magOf x g) (dirOf x) k0_pay8 (ix2 r l) = weight (gradX (row x r) l) (gradY (row x r) l) (flatTable g l) := by
  have hg : broadcastTo S512x1024 g broadcasts_S1x1024_S512x1024 (ix2 r l) = flatTable g l :=
    broadcastTo_apply _ _ _ (ix2 (0 : Fin 1) l) (by intro a; fin_cases a <;> rfl)
  have em : magOf x g (ix2 r l) = mag (gradX (row x r) l) (gradY (row x r) l) (flatTable g l) := by
    rw [← hg, ← pay4_apply, ← pay5_apply]
    unfold magOf
    rw [pay1_eq]
    rfl
  have e : k0_pay11 (magOf x g) (dirOf x) k0_pay8 (ix2 r l)
      = (word 0x3F800000#32 - (k0_pay9 (dirOf x) k0_pay8 (ix2 r l) - flr (k0_pay9 (dirOf x) k0_pay8 (ix2 r l)))) * magOf x g (ix2 r l) := by
    generalize magOf x g = m
    generalize dirOf x = d
    rfl
  rw [e, em, turn_apply]
  rfl

/-! ## The histogram -/

/-- The word of the real `k`. -/
def binWord : Fin 36 → BitVec 32 :=
  ![0x00000000#32, 0x3F800000#32, 0x40000000#32, 0x40400000#32, 0x40800000#32, 0x40A00000#32, 0x40C00000#32, 0x40E00000#32, 0x41000000#32,
    0x41100000#32, 0x41200000#32, 0x41300000#32, 0x41400000#32, 0x41500000#32, 0x41600000#32, 0x41700000#32, 0x41800000#32, 0x41880000#32,
    0x41900000#32, 0x41980000#32, 0x41A00000#32, 0x41A80000#32, 0x41B00000#32, 0x41B80000#32, 0x41C00000#32, 0x41C80000#32, 0x41D00000#32,
    0x41D80000#32, 0x41E00000#32, 0x41E80000#32, 0x41F00000#32, 0x41F80000#32, 0x42000000#32, 0x42040000#32, 0x42080000#32, 0x420C0000#32]

theorem word_binWord (k : Fin 36) : word (binWord k) = ((k.val : ℝ) : EReal) := by
  fin_cases k <;> simp [binWord, word, Ideal.ofBits, Ideal.ieee, -EReal.coe_mul] <;> norm_num

/-- The sum of the weights `w` whose bin in `b` is the real of word `c`, as a column. -/
def sumCol (w b : Fx S512x1024) (c : BitVec 32) : Fx S512x1 :=
  shapeCast S512x1 (multiReduction .add [1] S512 (select (cmpf .oeq b (broadcast S512x1024 (Scalar.ofBits .f32 c))) w
    (broadcast S512x1024 (Scalar.ofBits .f32 0x00000000#32))) 0x00000000#32 reduces_S512x1024_S512 (.inl rfl) rfl) shapeCasts_S512_S512x1

theorem sumCol_apply (w b : Fx S512x1024) (c : BitVec 32) (r : Fin 512) :
    sumCol w b c (ix2 r (0 : Fin 1)) = ∑ l : Fin 1024, if row b r l = word c then row w r l else 0 := by
  unfold sumCol
  rw [shapeCast_apply _ _ _ (ix1 r) (by rw [Shape.rowMajor_val_one, Shape.rowMajor_val_two]; simp)]
  refine (Ideal.multiReduction_add_single _ _ _ _ _ _).trans (Finset.sum_congr rfl fun l _ => ?_)
  have hl : Shape.Reduces.lift reduces_S512x1024_S512 (ix1 r) l = ix2 r l := by
    funext a; fin_cases a <;> rfl
  rw [hl]
  show Scalar.select (Ideal.cmp .oeq (b (ix2 r l)) (word c)) (w (ix2 r l)) (word 0x00000000#32) = _
  rw [show word 0x00000000#32 = 0 from Ideal.ofBits_zero_f32]
  unfold row Scalar.select Ideal.cmp
  by_cases q : b (ix2 r l) = word c <;> simp [q]

/-- 36 columns fit a block of 36. -/
theorem columns_fit (f : Fin 36 → Fx S512x1) :
    Shape.Concatenates ((List.ofFn fun k : Fin 36 => (⟨S512x1, f k⟩ : (s : Shape) × Fx s)).map (·.1)) S512x36 1 := by
  rw [List.map_ofFn]
  show Shape.Concatenates (List.ofFn fun _ : Fin 36 => S512x1) S512x36 1
  decide

/-- The histogram as 36 columns side by side. -/
theorem histOf_eq (m n p : Fx S512x1024) :
    histOf m n p (k0_pay11 m n p) (k0_pay12 n p)
      = mulf (concatenate S512x36 1 (List.ofFn fun k : Fin 36 => ⟨S512x1, sumCol (k0_pay11 m n p) (k0_pay12 n p) (binWord k)⟩) (columns_fit _))
        (broadcast S512x36 (Scalar.ofBits .f32 0x3A800000#32)) := by
  unfold histOf
  rfl

/-- The histogram at a patch and a bin. -/
theorem histOf_apply (x : Fx S512x1024) (g : Fx S1x1024) (r : Fin 512) (k : Fin 36) :
    histOf (magOf x g) (dirOf x) k0_pay8 (k0_pay11 (magOf x g) (dirOf x) k0_pay8) (k0_pay12 (dirOf x) k0_pay8) (ix2 r k)
      = hist (gradX (row x r)) (gradY (row x r)) (flatTable g) k := by
  rw [histOf_eq]
  show concatenate S512x36 1 _ (columns_fit _) (ix2 r k) * word 0x3A800000#32 = _
  rw [concatenate_ofFn_unit_apply (s₁ := S512x1) 1 (fun k : Fin 36 => sumCol (k0_pay11 (magOf x g) (dirOf x) k0_pay8) (k0_pay12 (dirOf x) k0_pay8) (binWord k))
    (columns_fit _) rfl rfl (ix2 r k) k rfl (ix2 r (0 : Fin 1)) (by intro a ha; fin_cases a <;> first | rfl | exact absurd rfl ha),
    sumCol_apply, word_inv1024]
  unfold hist
  congr 1
  refine Finset.sum_congr rfl fun l _ => ?_
  rw [word_binWord]
  unfold row
  rw [bin_apply, weight_apply]
  rfl

/-- The histogram moved up, at a patch and a bin. -/
theorem leftOf_apply (m n p w b : Fx S512x1024) (r : Fin 512) (k : Fin 36) :
    Body.leftOf m n p w b (ix2 r k) = if hk : 1 ≤ k.val then histOf m n p w b (ix2 r ⟨k.val - 1, by omega⟩) else 0 := by
  have e : Body.leftOf m n p w b = concatenate S512x36 1 [⟨S512x1, (k0_pay52 : Fx S512x1)⟩, ⟨S512x35, extractStridedSlice S512x35 ![0, 0]
      (histOf m n p w b) slices_S512x36_o0_0_S512x35⟩] concatenates_S512x1_S512x35_S512x36_d1 := rfl
  rw [e]
  split_ifs with q
  · rw [concatenate_pair_apply_right (t := S512x36) (s₁ := S512x1) (s₂ := S512x35) 1 _ _ _ (ix2 r k) rfl rfl (ix2 r (⟨k.val - 1, by omega⟩ : Fin 35))
        (by intro a ha; fin_cases a <;> first | rfl | exact absurd rfl ha) (by show k.val - 1 + 1 = k.val; omega),
      extractStridedSlice_apply _ _ _ _ (ix2 r (⟨k.val - 1, by omega⟩ : Fin 36)) (by intro a; fin_cases a <;> simp)]
  · rw [concatenate_pair_apply_left (t := S512x36) (s₁ := S512x1) (s₂ := S512x35) 1 _ _ _ (ix2 r k) rfl (ix2 r (0 : Fin 1))
        (by intro a; fin_cases a
            · rfl
            · show 0 = k.val; omega)]
    exact Ideal.ofBits_zero_f32

/-- The histogram moved down, at a patch and a bin. -/
theorem rightOf_apply (m n p w b : Fx S512x1024) (r : Fin 512) (k : Fin 36) :
    Body.rightOf m n p w b (ix2 r k) = if hk : k.val < 35 then histOf m n p w b (ix2 r ⟨k.val + 1, by omega⟩) else 0 := by
  have e : Body.rightOf m n p w b = concatenate S512x36 1 [⟨S512x35, extractStridedSlice S512x35 ![0, 1]
      (histOf m n p w b) slices_S512x36_o0_1_S512x35⟩, ⟨S512x1, (k0_pay52 : Fx S512x1)⟩] concatenates_S512x35_S512x1_S512x36_d1 := rfl
  rw [e]
  split_ifs with q
  · rw [concatenate_pair_apply_left (t := S512x36) (s₁ := S512x35) (s₂ := S512x1) 1 _ _ _ (ix2 r k) rfl (ix2 r (⟨k.val, q⟩ : Fin 35))
        (by intro a; fin_cases a <;> rfl),
      extractStridedSlice_apply _ _ _ _ (ix2 r (⟨k.val + 1, by omega⟩ : Fin 36)) (by
        intro a; fin_cases a
        · simp
        · show k.val + 1 = 1 + k.val; omega)]
  · rw [concatenate_pair_apply_right (t := S512x36) (s₁ := S512x35) (s₂ := S512x1) 1 _ _ _ (ix2 r k) rfl rfl (ix2 r (0 : Fin 1))
        (by intro a ha; fin_cases a <;> first | rfl | exact absurd rfl ha) (by show 0 + 35 = k.val; omega)]
    exact Ideal.ofBits_zero_f32

end Cert.KernelIdeal.Body

end
-- ==== Proof.BlockPeak.lean ====
/-
  The end of the Pallas kernel's body on one block, read at a patch: smoothing, the first largest bin by a maximum and a
  minimum, and the angle; with the histogram, lane 0 of the stored block is the orientation of its patch.
-/
module

public import proofs.«01_k».proof.Proof.BlockHist

@[expose] public section

set_option maxRecDepth 65536

noncomputable section

namespace Cert.KernelIdeal.Body

open Cert.KernelIdeal Cert.KernelIdeal.Gen Cert.Orient
open Idealize.ShloMosaic

/-- The smoothed histograms from a histogram and its two neighbours. -/
def smoothOf (h lo hi : Fx S512x36) : Fx S512x36 :=
  addf (addf (mulf (broadcast S512x36 (Scalar.ofBits .f32 0x3EA8F5C3#32)) lo) (mulf (broadcast S512x36 (Scalar.ofBits .f32 0x3EAE147B#32)) h))
    (mulf (broadcast S512x36 (Scalar.ofBits .f32 0x3EA8F5C3#32)) hi)

theorem smoothOf_apply (h lo hi : Fx S512x36) (r : Fin 512) (k : Fin 36) :
    smoothOf h lo hi (ix2 r k) = word 0x3EA8F5C3#32 * lo (ix2 r k) + word 0x3EAE147B#32 * h (ix2 r k) + word 0x3EA8F5C3#32 * hi (ix2 r k) := rfl

/-- The largest of every row. -/
def topOf (s : Fx S512x36) : Fx S512x1 :=
  shapeCast S512x1 (multiReduction .maximumf [1] S512 s 0xFF800000#32 reduces_S512x36_S512 (.inl rfl) rfl) shapeCasts_S512_S512x1

/-- The bins where a row is at its largest, 36 elsewhere. -/
def tiesOf (s : Fx S512x36) : Fx S512x36 :=
  select (cmpf .oeq s (broadcastTo S512x36 (topOf s) broadcasts_S512x1_S512x36)) (sitofp .f32 (iota .tc S512x36 32 [1] iota_S512x36_d1_w32))
    (broadcast S512x36 (Scalar.ofBits .f32 0x42100000#32))

/-- The first of those bins. -/
def placeOf (s : Fx S512x36) : Fx S512x1 :=
  shapeCast S512x1 (multiReduction .minimumf [1] S512 (tiesOf s) 0x7F800000#32 reduces_S512x36_S512 (.inl rfl) rfl) shapeCasts_S512_S512x1

/-- Its angle. -/
def angleOf (n : Fx S512x1) : Fx S512x1 :=
  subf (broadcast S512x1 (Scalar.ofBits .f32 0x00000000#32))
    (subf (divf (mulf (broadcast S512x1 (Scalar.ofBits .f32 0x40C90FDB#32)) n) (broadcast S512x1 (Scalar.ofBits .f32 0x42100000#32)))
      (broadcast S512x1 (Scalar.ofBits .f32 0x40490FDB#32)))

/-- Lane 0 of the stored block is the angle. -/
theorem pay55_apply (q : Fx S512x1) (h lo hi : Fx S512x36) (r : Fin 512) :
    k0_pay55 (iota .tc S1x1024 32 [1] iota_S1x1024_d1_w32) q h lo hi (Scalar.ofBits .f32 0x3EA8F5C3#32) (ix2 r (0 : Fin 128))
      = angleOf (placeOf (smoothOf h lo hi)) (ix2 r (0 : Fin 1)) := by
  have hm : (broadcastTo S512x128 (shapeCast S1x128 (cmpi .slt (extractStridedSlice S1x128 ![0, 0] (iota .tc S1x1024 32 [1] iota_S1x1024_d1_w32)
      slices_S1x1024_o0_0_S1x128) (broadcast S1x128 64#32)) shapeCasts_S1x128_S1x128) broadcasts_S1x128_S512x128 : IVec S512x128 1) (ix2 r (0 : Fin 128)) = 1#1 := by
    rw [broadcastTo_apply _ _ _ (ix2 (0 : Fin 1) (0 : Fin 128)) (by intro a; fin_cases a <;> rfl), shapeCast_apply _ _ _ (ix2 (0 : Fin 1) (0 : Fin 128)) rfl]
    show IntOp.cmpi .slt (extractStridedSlice S1x128 ![0, 0] (iota .tc S1x1024 32 [1] iota_S1x1024_d1_w32)
      slices_S1x1024_o0_0_S1x128 (ix2 (0 : Fin 1) (0 : Fin 128))) 64#32 = _
    rw [extractStridedSlice_apply _ _ _ _ (ix2 (0 : Fin 1) (0 : Fin 1024)) (by intro a; fin_cases a <;> rfl)]
    rfl
  have ha : (broadcastTo S512x128 (shapeCast S512x1 (angleOf (placeOf (smoothOf h lo hi))) shapeCasts_S512x1_S512x1) broadcasts_S512x1_S512x128 : Fx S512x128)
      (ix2 r (0 : Fin 128)) = angleOf (placeOf (smoothOf h lo hi)) (ix2 r (0 : Fin 1)) := by
    rw [broadcastTo_apply _ _ _ (ix2 r (0 : Fin 1)) (by intro a; fin_cases a <;> rfl), shapeCast_apply _ _ _ (ix2 r (0 : Fin 1)) rfl]
  rw [← ha]
  generalize hA : (broadcastTo S512x128 (shapeCast S512x1 (angleOf (placeOf (smoothOf h lo hi))) shapeCasts_S512x1_S512x1) broadcasts_S512x1_S512x128 : Fx S512x128) = A
  have e : ∃ B : Fx S512x128, k0_pay55 (iota .tc S1x1024 32 [1] iota_S1x1024_d1_w32) q h lo hi (Scalar.ofBits .f32 0x3EA8F5C3#32)
      = select (broadcastTo S512x128 (shapeCast S1x128 (cmpi .slt (extractStridedSlice S1x128 ![0, 0] (iota .tc S1x1024 32 [1] iota_S1x1024_d1_w32)
      slices_S1x1024_o0_0_S1x128) (broadcast S1x128 64#32)) shapeCasts_S1x128_S1x128) broadcasts_S1x128_S512x128) A B := by
    rw [← hA]; exact ⟨_, rfl⟩
  obtain ⟨B, e⟩ := e
  rw [e]
  show Scalar.select (broadcastTo S512x128 _ broadcasts_S1x128_S512x128 (ix2 r (0 : Fin 128))) (A _) (B _) = _
  rw [hm]
  rfl

/-- The largest of a row. -/
theorem topOf_apply (s : Fx S512x36) (r : Fin 512) :
    topOf s (ix2 r (0 : Fin 1)) = (Finset.univ : Finset (Fin 36)).fold max ⊥ (fun k => s (ix2 r k)) := by
  unfold topOf
  rw [shapeCast_apply _ _ _ (ix1 r) (by rw [Shape.rowMajor_val_one, Shape.rowMajor_val_two]; simp)]
  refine (Ideal.multiReduction_maximumf_single _ _ _ _ _ _).trans ?_
  have e0 : (FloatOps.ofBits .f32 (0xFF800000#32) : Ideal .f32) = (⊥ : EReal) := by
    show word 0xFF800000#32 = ⊥
    simp [word, Ideal.ofBits, Ideal.ieee]
  rw [e0]
  refine congrArg (fun f : Fin 36 → EReal => (Finset.univ : Finset (Fin 36)).fold max ⊥ f) (funext fun k => ?_)
  exact congrArg s (by funext a; fin_cases a <;> rfl)

/-- A bin where the row is at its largest, or 36. -/
theorem tiesOf_apply (s : Fx S512x36) (r : Fin 512) (k : Fin 36) :
    tiesOf s (ix2 r k) = if s (ix2 r k) = topOf s (ix2 r (0 : Fin 1)) then ((k.val : ℝ) : EReal) else ((36 : ℝ) : EReal) := by
  have hb : broadcastTo S512x36 (topOf s) broadcasts_S512x1_S512x36 (ix2 r k) = topOf s (ix2 r (0 : Fin 1)) :=
    broadcastTo_apply _ _ _ _ (by intro a; fin_cases a <;> rfl)
  have t : ∀ k : Fin 36, (BitVec.ofNat 32 (0 * 36 + k.val)).toInt = k.val := by decide
  have e : tiesOf s (ix2 r k) = Scalar.select (Ideal.cmp .oeq (s (ix2 r k)) (broadcastTo S512x36 (topOf s) broadcasts_S512x1_S512x36 (ix2 r k)))
      (((BitVec.ofNat 32 (0 * 36 + k.val)).toInt : ℝ) : EReal) (word 0x42100000#32) := rfl
  rw [e, hb, t, word_36]
  unfold Scalar.select Ideal.cmp
  by_cases q : s (ix2 r k) = topOf s (ix2 r (0 : Fin 1)) <;> simp [q]

/-- The first largest bin of a row. -/
theorem placeOf_apply (s : Fx S512x36) (r : Fin 512) :
    ∃ n, IsFirstMax (fun k => s (ix2 r k)) n ∧ placeOf s (ix2 r (0 : Fin 1)) = ((n.val : ℝ) : EReal) := by
  set m := topOf s (ix2 r (0 : Fin 1)) with hm
  have hfold := topOf_apply s r
  rw [← hm] at hfold
  have hle : ∀ k, s (ix2 r k) ≤ m := fun k => by
    rw [hfold, Finset.le_fold_max]
    exact Or.inr ⟨k, Finset.mem_univ _, le_rfl⟩
  have hex : ∃ k, s (ix2 r k) = m := by
    by_contra hc
    push Not at hc
    have hlt : ∀ k, s (ix2 r k) < m := fun k => lt_of_le_of_ne (hle k) (hc k)
    have : m < m := by
      conv_lhs => rw [hfold]
      rw [Finset.fold_max_lt]
      exact ⟨bot_le.trans_lt (hlt 0), fun k _ => hlt k⟩
    exact lt_irrefl _ this
  obtain ⟨n, hn, hmin⟩ := WellFounded.has_min (wellFounded_lt (α := Fin 36)) {k | s (ix2 r k) = m} hex
  refine ⟨n, ⟨fun j => (hle j).trans_eq (Eq.symm hn), fun j hj => ?_⟩, ?_⟩
  · refine lt_of_le_of_ne ((hle j).trans_eq (Eq.symm hn)) fun q => hmin j (q.trans hn) hj
  · unfold placeOf
    rw [shapeCast_apply _ _ _ (ix1 r) (by rw [Shape.rowMajor_val_one, Shape.rowMajor_val_two]; simp)]
    refine (multiReduction_minimumf_eq_fold _ _ _ _ _ _).trans ?_
    rw [Shape.Reduces.fold_filter_drop_single]
    have e0 : (FloatOps.ofBits .f32 (0x7F800000#32) : Ideal .f32) = (⊤ : EReal) := by
      show word 0x7F800000#32 = ⊤
      simp [word, Ideal.ofBits, Ideal.ieee]
    rw [e0]
    have ef : (tiesOf s ∘ Shape.Reduces.lift reduces_S512x36_S512 (ix1 r) : Fin 36 → EReal)
        = fun k : Fin 36 => if s (ix2 r k) = m then ((k.val : ℝ) : EReal) else ((36 : ℝ) : EReal) := by
      funext k
      rw [hm, ← tiesOf_apply]
      exact congrArg (tiesOf s) (by funext a; fin_cases a <;> rfl)
    show (Finset.univ : Finset (Fin 36)).fold min (⊤ : EReal) (tiesOf s ∘ Shape.Reduces.lift reduces_S512x36_S512 (ix1 r) : Fin 36 → EReal) = _
    rw [ef]
    apply le_antisymm
    · rw [Finset.fold_min_le]
      exact Or.inr ⟨n, Finset.mem_univ _, by rw [if_pos (show s (ix2 r n) = m from hn)]⟩
    · rw [Finset.le_fold_min]
      refine ⟨le_top, fun k _ => ?_⟩
      split_ifs with q
      · have := not_lt.1 (hmin k q)
        exact_mod_cast this
      · have := n.isLt
        exact_mod_cast this.le

/-- Lane 0 of a stored row is the orientation of the row's patch. -/
theorem storedOf_apply (x : Fx S512x1024) (g : Fx S1x1024) (r : Fin 512) :
    IsOrientation (row x r) (flatTable g) (storedOf x g (ix2 r (0 : Fin 128))) := by
  unfold storedOf packedOf
  rw [pay55_apply]
  generalize hs : smoothOf _ _ _ = s
  have es : (fun k => s (ix2 r k)) = smooth (hist (gradX (row x r)) (gradY (row x r)) (flatTable g)) := by
    funext k
    rw [← hs]
    rw [smoothOf_apply, leftOf_apply, rightOf_apply]
    simp only [histOf_apply]
    rfl
  obtain ⟨n, hn, e⟩ := placeOf_apply s r
  rw [es] at hn
  refine ⟨n, hn, ?_⟩
  have ea : angleOf (placeOf s) (ix2 r (0 : Fin 1))
      = word 0x00000000#32 - (Ideal.div (word 0x40C90FDB#32 * placeOf s (ix2 r (0 : Fin 1))) (word 0x42100000#32) - word 0x40490FDB#32) := rfl
  rw [ea, e, show word 0x00000000#32 = 0 from Ideal.ofBits_zero_f32, zero_sub]
  rfl

end Cert.KernelIdeal.Body

end
-- ==== Proof.LineArray.lean ====
/-
  The launch's result array at a patch: column 0 of every row holds the orientation of the row's patch.
-/
module

public import proofs.«01_k».proof.Proof.BlockPeak
public import Idealize.ShloMosaic.Lib.Pipeline.ValueKit

@[expose] public section

set_option maxRecDepth 65536

noncomputable section

namespace Cert.KernelIdeal.Body

open Cert.KernelIdeal Cert.KernelIdeal.Gen Cert.Orient
open Idealize.ShloMosaic

variable (m : (ℓ : Loc nD τ sig) → Buf (Elt Ideal) ℓ)

/-- The patches of a device, one row each. -/
def rows (c : Dev nD) : Fx S65536x1024 := V m c main_call0_v0
/-- The table of weights of a device. -/
def table (c : Dev nD) : Fx S1x1024 := V m c main_call0_cst

/-- The blocks of patches follow one another. -/
theorem index_0 : ∀ t : Fin cfg0.N, win0_0.index t = ![(grid0.coords t 0).val, 0] := (by decide +kernel : ∀ t : Fin grid0.N, _)
/-- The table's block is the table. -/
theorem index_1 : ∀ t : Fin cfg0.N, win0_1.index t = ![0, 0] := (by decide +kernel : ∀ t : Fin grid0.N, _)
/-- The blocks of results follow one another. -/
theorem index_2 : ∀ t : Fin cfg0.N, win0_2.index t = ![(grid0.coords t 0).val, 0] := (by decide +kernel : ∀ t : Fin grid0.N, _)

/-- The block of a grid point, stored whole. -/
theorem out_apply (x : Fx S512x1024) (g : Fx S1x1024) (y : S512x128.Idx) : (out0_2 (F := Ideal) x g) y = storedOf x g y := by
  unfold out0_2
  frame_out

/-- Column 0 of the launch's result holds orientations. -/
theorem array_at (c : Dev nD) (n : Fin 65536) :
    IsOrientation (fun l => rows m c (ix2 n l)) (flatTable (table m c)) ((dats m 0 c).arrAt 2 cfg0.N (ix2 n (0 : Fin 128))) := by
  refine ((dats m 0 c).arrAt_forall_of_covers 2 (fun i v => ∀ n : Fin 65536, i = ix2 n (0 : Fin 128) →
    IsOrientation (fun l => rows m c (ix2 n l)) (flatTable (table m c)) v) (by decide +kernel) (fun t hf y => ?_) (ix2 n (0 : Fin 128))) n rfl
  intro n hn
  blk_simp
  rw [after0_2]
  rw [out_apply]
  obtain ⟨r, k, rfl⟩ : ∃ (r : Fin 512) (k : Fin 128), y = ix2 r k := ⟨_, _, eq_ix2 y⟩
  have h0 := congrArg Fin.val (congrFun hn 0)
  have h1 := congrArg Fin.val (congrFun hn 1)
  blk_simp [index_2] at h0 h1
  obtain rfl : k = 0 := Fin.ext h1
  have hx : row (iblk m c 0 t) r = fun l => rows m c (ix2 n l) := by
    funext l
    unfold row rows
    blk_simp [iblk]
    refine congrArg (V m c main_call0_v0) (funext fun a => Fin.ext ?_)
    fin_cases a
    · blk_simp [index_0]
      exact h0
    · blk_simp [index_0]
      rfl
  have hg : flatTable (iblk m c 1 t) = flatTable (table m c) := by
    funext l
    unfold flatTable table
    blk_simp [iblk]
    refine congrArg (V m c main_call0_cst) (funext fun a => Fin.ext ?_)
    fin_cases a
    · blk_simp [index_1]
    · blk_simp [index_1]
  have h := storedOf_apply (iblk m c 0 t) (iblk m c 1 t) r
  rwa [hx, hg] at h

end Cert.KernelIdeal.Body

end
-- ==== Proof.HostTail.lean ====
/-
  The plain computation of the orientations of `b` patches at once, stage by stage, as both programs write it after their
  arguments are at hand: edge padding, gradients, the 36-bin histogram by an accumulating scatter, smoothing, the first
  largest bin and its angle.
-/
module

public import Idealize.ShloMosaic.PureOps.Ideal.Laws
public import Idealize.ShloMosaic.Lib.Pointwise

@[expose] public section

set_option maxRecDepth 16384

noncomputable section

namespace Cert.Orient

open Idealize.ShloMosaic

/-- A vector of `b` entries. -/
abbrev d1 (b : ℕ) : Shape := ⟨1, ![b]⟩
/-- A matrix of `b` rows and `n` columns. -/
abbrev d2 (b n : ℕ) : Shape := ⟨2, ![b, n]⟩
/-- Three axes. -/
abbrev d3 (b n m : ℕ) : Shape := ⟨3, ![b, n, m]⟩
/-- Four axes. -/
abbrev d4 (a b n m : ℕ) : Shape := ⟨4, ![a, b, n, m]⟩
/-- Five axes. -/
abbrev d5 (a b c n m : ℕ) : Shape := ⟨5, ![a, b, c, n, m]⟩
/-- No axis: a scalar. -/
abbrev d0 : Shape := ⟨0, ![]⟩

/-- Three pieces joined along an axis. -/
def cat3 {α : Type} {s0 s1 s2 : Shape} (t : Shape) (d : Fin t.rank) (h : Shape.Concatenates [s0, s1, s2] t d) (x0 : s0.Idx → α)
    (x1 : s1.Idx → α) (x2 : s2.Idx → α) : t.Idx → α := concatenate t d [⟨s0, x0⟩, ⟨s1, x1⟩, ⟨s2, x2⟩] h
/-- Two pieces joined along an axis. -/
def cat2 {α : Type} {s0 s1 : Shape} (t : Shape) (d : Fin t.rank) (h : Shape.Concatenates [s0, s1] t d) (x0 : s0.Idx → α)
    (x1 : s1.Idx → α) : t.Idx → α := concatenate t d [⟨s0, x0⟩, ⟨s1, x1⟩] h
theorem cat3_eq {α : Type} {s0 s1 s2 : Shape} (t : Shape) (d : Fin t.rank) (h : Shape.Concatenates [s0, s1, s2] t d) (x0 : s0.Idx → α)
    (x1 : s1.Idx → α) (x2 : s2.Idx → α) : concatenate t d [⟨s0, x0⟩, ⟨s1, x1⟩, ⟨s2, x2⟩] h = cat3 t d h x0 x1 x2 := (rfl)
theorem cat2_eq {α : Type} {s0 s1 : Shape} (t : Shape) (d : Fin t.rank) (h : Shape.Concatenates [s0, s1] t d) (x0 : s0.Idx → α)
    (x1 : s1.Idx → α) : concatenate t d [⟨s0, x0⟩, ⟨s1, x1⟩] h = cat2 t d h x0 x1 := (rfl)

/-- What the shapes have to satisfy for the stages below to be defined at `b` patches. -/
class HostFacts (b : ℕ) : Prop where
  small : b ≤ 65536
  hs : 0 < d0.numel
  sA0 : (d4 b 1 32 32).Slices ![0, 0, 0, 0] (d4 1 1 32 32)
  sA1 : (d4 b 1 32 32).Slices ![b - 1, 0, 0, 0] (d4 1 1 32 32)
  bA : (d4 1 1 32 32).BroadcastsInDim (d5 1 0 1 32 32) (![0, 2, 3, 4] : Fin 4 → Fin 5)
  cA : (d5 1 0 1 32 32).ShapeCasts (d4 0 1 32 32)
  kA : Shape.Concatenates [d4 0 1 32 32, d4 b 1 32 32, d4 0 1 32 32] (d4 b 1 32 32) 0
  sB : (d4 b 1 32 32).Slices ![0, 0, 0, 0] (d4 b 1 32 32)
  bB : (d4 b 1 32 32).BroadcastsInDim (d5 b 1 0 32 32) (![0, 1, 3, 4] : Fin 4 → Fin 5)
  cB : (d5 b 1 0 32 32).ShapeCasts (d4 b 0 32 32)
  kB : Shape.Concatenates [d4 b 0 32 32, d4 b 1 32 32, d4 b 0 32 32] (d4 b 1 32 32) 1
  sC0 : (d4 b 1 32 32).Slices ![0, 0, 0, 0] (d4 b 1 1 32)
  sC1 : (d4 b 1 32 32).Slices ![0, 0, 31, 0] (d4 b 1 1 32)
  bC0 : (d4 b 1 1 32).BroadcastsInDim (d5 b 1 1 0 32) (![0, 1, 2, 4] : Fin 4 → Fin 5)
  cC0 : (d5 b 1 1 0 32).ShapeCasts (d4 b 1 0 32)
  kC0 : Shape.Concatenates [d4 b 1 0 32, d4 b 1 32 32, d4 b 1 0 32] (d4 b 1 32 32) 2
  bC1 : (d4 b 1 1 32).BroadcastsInDim (d5 b 1 1 1 32) (![0, 1, 2, 4] : Fin 4 → Fin 5)
  cC1 : (d5 b 1 1 1 32).ShapeCasts (d4 b 1 1 32)
  kC1 : Shape.Concatenates [d4 b 1 1 32, d4 b 1 32 32, d4 b 1 1 32] (d4 b 1 34 32) 2
  sD0 : (d4 b 1 32 32).Slices ![0, 0, 0, 0] (d4 b 1 32 1)
  sD1 : (d4 b 1 32 32).Slices ![0, 0, 0, 31] (d4 b 1 32 1)
  bD : (d4 b 1 32 1).BroadcastsInDim (d5 b 1 32 1 1) (![0, 1, 2, 3] : Fin 4 → Fin 5)
  cD : (d5 b 1 32 1 1).ShapeCasts (d4 b 1 32 1)
  kD : Shape.Concatenates [d4 b 1 32 1, d4 b 1 32 32, d4 b 1 32 1] (d4 b 1 32 34) 3
  sE0 : (d4 b 1 34 32).Slices ![0, 0, 0, 0] (d4 b 1 34 1)
  sE1 : (d4 b 1 34 32).Slices ![0, 0, 0, 31] (d4 b 1 34 1)
  bE : (d4 b 1 34 1).BroadcastsInDim (d5 b 1 34 1 0) (![0, 1, 2, 3] : Fin 4 → Fin 5)
  cE : (d5 b 1 34 1 0).ShapeCasts (d4 b 1 34 0)
  kE : Shape.Concatenates [d4 b 1 34 0, d4 b 1 34 32, d4 b 1 34 0] (d4 b 1 34 32) 3
  sX0 : (d4 b 1 32 34).Slices ![0, 0, 0, 0] (d4 b 1 32 32)
  sX2 : (d4 b 1 32 34).Slices ![0, 0, 0, 2] (d4 b 1 32 32)
  sY0 : (d4 b 1 34 32).Slices ![0, 0, 0, 0] (d4 b 1 32 32)
  sY2 : (d4 b 1 34 32).Slices ![0, 0, 2, 0] (d4 b 1 32 32)
  bS4 : d0.BroadcastsInDim (d4 b 1 32 32) (![] : Fin 0 → Fin 4)
  bT : (d2 32 32).BroadcastsInDim (d4 1 1 32 32) (![2, 3] : Fin 2 → Fin 4)
  bT' : (d4 1 1 32 32).BroadcastsInDim (d4 b 1 32 32) (![0, 1, 2, 3] : Fin 4 → Fin 4)
  cF : (d4 b 1 32 32).ShapeCasts (d2 b 1024)
  bS36 : d0.BroadcastsInDim (d2 b 36) (![] : Fin 0 → Fin 2)
  bS1 : d0.BroadcastsInDim (d2 b 1) (![] : Fin 0 → Fin 2)
  bSw : d0.BroadcastsInDim (d2 b 1024) (![] : Fin 0 → Fin 2)
  bR : (d1 b).BroadcastsInDim (d2 b 1) (![0] : Fin 1 → Fin 2)
  bR' : (d2 b 1).BroadcastsInDim (d2 b 1024) (![0, 1] : Fin 2 → Fin 2)
  bI : (d2 b 1024).BroadcastsInDim (d3 b 1024 1) (![0, 1] : Fin 2 → Fin 3)
  kI : Shape.Concatenates [d3 b 1024 1, d3 b 1024 1] (d3 b 1024 2) 2
  wf : ScatterDims.WF (d2 b 36) (d3 b 1024 2) (d2 b 1024) [] [0, 1] [0, 1] 2
  pH : (d2 b 36).Pads ![0, 1] ![0, 1] ![0, 0] (d2 b 38)
  sH0 : (d2 b 38).Slices ![0, 0] (d2 b 36)
  sH1 : (d2 b 38).Slices ![0, 1] (d2 b 36)
  sH2 : (d2 b 38).Slices ![0, 2] (d2 b 36)
  rH : (d2 b 36).ReducesTo [1] (d1 b)
  bSb : d0.BroadcastsInDim (d1 b) (![] : Fin 0 → Fin 1)

open HostFacts

section
variable (b : ℕ) [HostFacts b]

/-- Floats of a shape. -/
abbrev Fl (s : Shape) : Type := FVec Ideal s .f32

/-! ## Edge padding -/

/-- Nothing is added along the patches. -/
def padA (x : Fl (d4 b 1 32 32)) : Fl (d4 b 1 32 32) :=
  cat3 (d4 b 1 32 32) 0 kA
    (shapeCast (d4 0 1 32 32) (broadcastInDim (d5 1 0 1 32 32) ![0, 2, 3, 4] (bA b) (extractStridedSlice (d4 1 1 32 32) ![0, 0, 0, 0] x sA0)) (cA b))
    x
    (shapeCast (d4 0 1 32 32) (broadcastInDim (d5 1 0 1 32 32) ![0, 2, 3, 4] (bA b) (extractStridedSlice (d4 1 1 32 32) ![b - 1, 0, 0, 0] x sA1)) (cA b))

/-- Nothing is added along the channel. -/
def padB (x : Fl (d4 b 1 32 32)) : Fl (d4 b 1 32 32) :=
  cat3 (d4 b 1 32 32) 1 kB
    (shapeCast (d4 b 0 32 32) (broadcastInDim (d5 b 1 0 32 32) ![0, 1, 3, 4] bB (extractStridedSlice (d4 b 1 32 32) ![0, 0, 0, 0] x sB)) cB)
    x
    (shapeCast (d4 b 0 32 32) (broadcastInDim (d5 b 1 0 32 32) ![0, 1, 3, 4] bB (extractStridedSlice (d4 b 1 32 32) ![0, 0, 0, 0] x sB)) cB)

/-- No row is added. -/
def padC (x : Fl (d4 b 1 32 32)) : Fl (d4 b 1 32 32) :=
  cat3 (d4 b 1 32 32) 2 kC0
    (shapeCast (d4 b 1 0 32) (broadcastInDim (d5 b 1 1 0 32) ![0, 1, 2, 4] bC0 (extractStridedSlice (d4 b 1 1 32) ![0, 0, 0, 0] x sC0)) cC0)
    x
    (shapeCast (d4 b 1 0 32) (broadcastInDim (d5 b 1 1 0 32) ![0, 1, 2, 4] bC0 (extractStridedSlice (d4 b 1 1 32) ![0, 0, 31, 0] x sC1)) cC0)

/-- The first and the last column are repeated once. -/
def padD (x : Fl (d4 b 1 32 32)) : Fl (d4 b 1 32 34) :=
  cat3 (d4 b 1 32 34) 3 kD
    (shapeCast (d4 b 1 32 1) (broadcastInDim (d5 b 1 32 1 1) ![0, 1, 2, 3] bD (extractStridedSlice (d4 b 1 32 1) ![0, 0, 0, 0] x sD0)) cD)
    x
    (shapeCast (d4 b 1 32 1) (broadcastInDim (d5 b 1 32 1 1) ![0, 1, 2, 3] bD (extractStridedSlice (d4 b 1 32 1) ![0, 0, 0, 31] x sD1)) cD)

/-- The first and the last row are repeated once. -/
def padC' (x : Fl (d4 b 1 32 32)) : Fl (d4 b 1 34 32) :=
  cat3 (d4 b 1 34 32) 2 kC1
    (shapeCast (d4 b 1 1 32) (broadcastInDim (d5 b 1 1 1 32) ![0, 1, 2, 4] bC1 (extractStridedSlice (d4 b 1 1 32) ![0, 0, 0, 0] x sC0)) cC1)
    x
    (shapeCast (d4 b 1 1 32) (broadcastInDim (d5 b 1 1 1 32) ![0, 1, 2, 4] bC1 (extractStridedSlice (d4 b 1 1 32) ![0, 0, 31, 0] x sC1)) cC1)

/-- No column is added. -/
def padE (x : Fl (d4 b 1 34 32)) : Fl (d4 b 1 34 32) :=
  cat3 (d4 b 1 34 32) 3 kE
    (shapeCast (d4 b 1 34 0) (broadcastInDim (d5 b 1 34 1 0) ![0, 1, 2, 3] bE (extractStridedSlice (d4 b 1 34 1) ![0, 0, 0, 0] x sE0)) cE)
    x
    (shapeCast (d4 b 1 34 0) (broadcastInDim (d5 b 1 34 1 0) ![0, 1, 2, 3] bE (extractStridedSlice (d4 b 1 34 1) ![0, 0, 0, 31] x sE1)) cE)

/-- A float constant at every pixel. -/
def splat4 (w : BitVec 32) : Fl (d4 b 1 32 32) := broadcastInDim (d4 b 1 32 32) ![] bS4 (constant d0 .f32 w)

/-- The gradients along the rows. -/
def gx4 (x : Fl (d4 b 1 32 32)) : Fl (d4 b 1 32 32) :=
  mulf (splat4 b 0x3F000000#32) (subf (extractStridedSlice (d4 b 1 32 32) ![0, 0, 0, 0] (padD b (padC b (padB b (padA b x)))) sX0)
    (extractStridedSlice (d4 b 1 32 32) ![0, 0, 0, 2] (padD b (padC b (padB b (padA b x)))) sX2))

/-- The gradients along the columns. -/
def gy4 (x : Fl (d4 b 1 32 32)) : Fl (d4 b 1 32 32) :=
  mulf (splat4 b 0x3F000000#32) (subf (extractStridedSlice (d4 b 1 32 32) ![0, 0, 0, 0] (padE b (padC' b (padB b (padA b x)))) sY0)
    (extractStridedSlice (d4 b 1 32 32) ![0, 0, 2, 0] (padE b (padC' b (padB b (padA b x)))) sY2))

/-! ## Directions, bins and weights -/

/-- The windowed lengths of the gradients. -/
def mag4 (u v : Fl (d4 b 1 32 32)) (g : Fl (d2 32 32)) : Fl (d4 b 1 32 32) :=
  mulf (Host.sqrt (addf (addf (mulf u u) (mulf v v)) (splat4 b 0x2EDBE6FF#32)))
    (broadcastInDim (d4 b 1 32 32) ![0, 1, 2, 3] bT' (broadcastInDim (d4 1 1 32 32) ![2, 3] (bT b) g))

/-- The directions of the gradients. -/
def turn4 (u v : Fl (d4 b 1 32 32)) : Fl (d4 b 1 32 32) :=
  Host.divf (mulf (splat4 b 0x42100000#32) (addf (Host.atan2 v u) (splat4 b 0x40490FDB#32))) (splat4 b 0x40C90FDB#32)

/-- The number 36 at every pixel, made from the integer. -/
def splat36 : Fl (d4 b 1 32 32) := broadcastInDim (d4 b 1 32 32) ![] bS4 (sitofp .f32 (constantI d0 32 36#32))

/-- The floored remainder by 36. -/
def rem4 (x : Fl (d4 b 1 32 32)) : Fl (d4 b 1 32 32) :=
  select (andi (cmpi .ne (cmpf .olt (Host.remf x (splat36 b)) (splat4 b 0x00000000#32))
      (broadcastInDim (d4 b 1 32 32) ![] bS4 (cmpf .olt (sitofp .f32 (constantI d0 32 36#32) : Fl d0) (constant d0 .f32 0x00000000#32))))
      (cmpf .une (Host.remf x (splat36 b)) (splat4 b 0x00000000#32)))
    (addf (Host.remf x (splat36 b)) (splat36 b)) (Host.remf x (splat36 b))

/-- The bin of every pixel, as a word. -/
def bin2 (u v : Fl (d4 b 1 32 32)) : IVec (d2 b 1024) 32 :=
  shapeCast (d2 b 1024) (fptosi 32 (rem4 b (Host.floor (turn4 b u v)))) cF

/-- The weight of every pixel. -/
def weight2 (u v : Fl (d4 b 1 32 32)) (g : Fl (d2 32 32)) : Fl (d2 b 1024) :=
  shapeCast (d2 b 1024) (mulf (subf (splat4 b 0x3F800000#32) (subf (turn4 b u v) (Host.floor (turn4 b u v)))) (mag4 b u v g)) cF

/-- The number of every row, with negative ones counted from the end: there are none. -/
def rows1 : IVec (d2 b 1) 32 :=
  select (cmpi .slt (broadcastInDim (d2 b 1) ![0] bR (iotaInDim (d1 b) 32 0)) (broadcastInDim (d2 b 1) ![] bS1 (constantI d0 32 0#32)))
    (addi (broadcastInDim (d2 b 1) ![0] bR (iotaInDim (d1 b) 32 0)) (broadcastInDim (d2 b 1) ![] bS1 (constantI d0 32 (BitVec.ofNat 32 b))))
    (broadcastInDim (d2 b 1) ![0] bR (iotaInDim (d1 b) 32 0))

/-- The bins with negative ones counted from the end. -/
def wrap2 (k : IVec (d2 b 1024) 32) : IVec (d2 b 1024) 32 :=
  select (cmpi .slt k (broadcastInDim (d2 b 1024) ![] bSw (constantI d0 32 0#32)))
    (addi k (broadcastInDim (d2 b 1024) ![] bSw (constantI d0 32 36#32))) k

/-- Where each weight goes: its row and its bin. -/
def place3 (k : IVec (d2 b 1024) 32) : IVec (d3 b 1024 2) 32 :=
  cat2 (d3 b 1024 2) 2 kI
    (broadcastInDim (d3 b 1024 1) ![0, 1] bI (broadcastInDim (d2 b 1024) ![0, 1] bR' (rows1 b)))
    (broadcastInDim (d3 b 1024 1) ![0, 1] bI (wrap2 b k))

/-- The scatter's axes. -/
def sdims : ScatterDims (d2 b 36) (d3 b 1024 2) (d2 b 1024) where
  updateWindowDims := []
  insertedWindowDims := [0, 1]
  scatterDimsToOperandDims := [0, 1]
  indexVectorDim := 2
  wf := wf

/-- A float constant at every bin. -/
def splat2 (w : BitVec 32) : Fl (d2 b 36) := broadcastInDim (d2 b 36) ![] bS36 (constant d0 .f32 w)

/-- The averaged histograms. -/
def hist2 (k : IVec (d2 b 1024) 32) (w : Fl (d2 b 1024)) : Fl (d2 b 36) :=
  Host.divf (Host.scatterAdd (sdims b) (splat2 b 0x00000000#32) (place3 b k) w) (splat2 b 0x44800000#32)

/-- The histograms with a zero on either side. -/
def wide2 (h : Fl (d2 b 36)) : Fl (d2 b 38) :=
  pad (d2 b 38) ![0, 1] ![0, 1] ![0, 0] h (sitofp .f32 (constantI d0 32 0#32) : Fl d0) pH (hs b)

/-- The smoothed histograms. -/
def smooth2 (h : Fl (d2 b 36)) : Fl (d2 b 36) :=
  addf (addf (mulf (splat2 b 0x3EA8F5C3#32) (extractStridedSlice (d2 b 36) ![0, 0] (wide2 b h) sH0))
      (mulf (splat2 b 0x3EAE147B#32) (extractStridedSlice (d2 b 36) ![0, 1] (wide2 b h) sH1)))
    (mulf (splat2 b 0x3EA8F5C3#32) (extractStridedSlice (d2 b 36) ![0, 2] (wide2 b h) sH2))

/-- Of two values with their positions the larger value; of two equal ones the one with the smaller position. -/
def better : EReal × BitVec 32 → EReal × BitVec 32 → EReal × BitVec 32 := fun a c =>
  (Scalar.select (IntOp.ori (Ideal.cmp .ogt a.1 c.1) (Ideal.cmp .une a.1 a.1)) a.1 c.1,
   Scalar.select (IntOp.ori (IntOp.ori (Ideal.cmp .ogt a.1 c.1) (Ideal.cmp .une a.1 a.1))
     (IntOp.andi (Ideal.cmp .oeq a.1 c.1) (IntOp.cmpi .slt a.2 c.2))) a.2 c.2)

/-- The first largest bin of every row. -/
def first1 (s : Fl (d2 b 36)) : IVec (d1 b) 32 := fun j =>
  (Host.argReduce (F := Ideal) (φ := .f32) better s (iotaInDim (d2 b 36) 32 1) (constant d0 .f32 0xFF800000#32) (constantI d0 32 0#32) rH (hs b) j).2

/-- A float constant at every row. -/
def splat1 (w : BitVec 32) : Fl (d1 b) := broadcastInDim (d1 b) ![] bSb (constant d0 .f32 w)

/-- The angle of every row's bin. -/
def angle1 (n : IVec (d1 b) 32) : Fl (d1 b) :=
  Host.negf (subf (Host.divf (mulf (splat1 b 0x40C90FDB#32) (sitofp .f32 n)) (splat1 b 0x42100000#32)) (splat1 b 0x40490FDB#32))

/-- The orientations of `b` patches. -/
def orient (x : Fl (d4 b 1 32 32)) (g : Fl (d2 32 32)) : Fl (d1 b) :=
  angle1 b (first1 b (smooth2 b (hist2 b (bin2 b (gx4 b x) (gy4 b x)) (weight2 b (gx4 b x) (gy4 b x) g))))

end

/-- The stages are defined at 512 patches. -/
theorem hostFacts_512 : HostFacts 512 := by constructor <;> decide
/-- The stages are defined at 65536 patches. -/
theorem hostFacts_65536 : HostFacts 65536 := by constructor <;> decide

end Cert.Orient

end
-- ==== Proof.ValueReference.lean ====
/-
  The run of `ReferenceIdeal`, with its result as one expression over its argument.
-/
module

public import proofs.«01_k».proof.Defs
public import proofs.«01_k».proof.Proof.Gen.ReferenceIdeal
public import proofs.«01_k».proof.Proof.HostTail
public import proofs.«01_k».proof.Proof.LineReads
public import Idealize.ShloMosaic.Lib.Claim

@[expose] public section

set_option maxRecDepth 1000000

noncomputable section

namespace Cert.ReferenceIdeal.Value

open Idealize.ShloMosaic Cert.Orient Idealize.SL.Sem Cert.ReferenceIdeal Cert.ReferenceIdeal.Gen

/-- The window's table. -/
def window : FVec Ideal S32x32 .f32 := fun i => Ideal.ofBits .f32 (lit0 (S32x32.rowMajor i))

set_option maxHeartbeats 80000000 in
/-- `ReferenceIdeal` ends with the orientations of its argument's patches in its result, and its argument unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v77)
          = (haveI := Cert.Orient.hostFacts_65536
             Cert.Orient.orient 65536 (m ((c.tc : Thread nD τ).loc main_arg0) : FVec Ideal S65536x1x32x32 .f32) window)
      ∧ r.2.mem ((c.tc : Thread nD τ).loc main_arg0) = m ((c.tc : Thread nD τ).loc main_arg0) := by
  have h := StableHlo.run_hlo (defs (F := Ideal)) (main (F := Ideal)) (by hlo_seq) (by decide) (by decide) (by simp)
    (by intro _ h; (repeat (cases h with | head => rfl | tail _ h => ?_)); exact nomatch h) m g
  refine θ_run_mono h fun r hr c => ?_
  have hV : StableHlo.launchContents m c (Proc.devRef .tc main_arg0) = m ((c.tc : Thread nD τ).loc main_arg0) := rfl
  rw [hr c main_v77, hr c main_arg0]
  generalize (m ((c.tc : Thread nD τ).loc main_arg0)) = x at hV ⊢
  generalize StableHlo.launchContents m c = V at hV ⊢
  clear h hr
  constructor
  · after_reads_simp [cat3_eq, cat2_eq, cons0, cons1, cons2, StableHlo.TRef.ofBuf_toBuf, ↓reshape_ref]
    rw [hV]
    rfl
  · after_reads_simp
    exact hV

end Cert.ReferenceIdeal.Value

end
-- ==== Proof.HostGrad.lean ====
/-
  The gradients of `b` patches at once, read at a pixel: half the difference of the two clamped neighbours.
-/
module

public import proofs.«01_k».proof.Proof.HostTail
public import proofs.«01_k».proof.Proof.Spec
public import Idealize.ShloMosaic.Lib.KernelVsHost

@[expose] public section

set_option maxRecDepth 16384

noncomputable section

namespace Cert.Orient

open Idealize.ShloMosaic HostFacts

/-- Pixel `l` of patch `i`. -/
abbrev at4 {b : ℕ} (i : Fin b) (l : Fin 1024) : (d4 b 1 32 32).Idx :=
  ix4 i (0 : Fin 1) (⟨l.val / 32, by omega⟩ : Fin 32) (⟨l.val % 32, by omega⟩ : Fin 32)

/-- Patch `i` of an array of patches. -/
def px {b : ℕ} {α : Type} (x : (d4 b 1 32 32).Idx → α) (i : Fin b) (l : Fin 1024) : α := x (at4 i l)

section
variable {α : Type} {t s0 s1 s2 : Shape} (d : Fin t.rank) (h : Shape.Concatenates [s0, s1, s2] t d) (x0 : s0.Idx → α)
  (x1 : s1.Idx → α) (x2 : s2.Idx → α) (j : t.Idx)

/-- An index in the first piece of a join of three. -/
theorem cat3_first (hr : s0.rank = t.rank) (i : s0.Idx) (hi : ∀ e : Fin s0.rank, e.cast hr ≠ d → (i e).val = (j (e.cast hr)).val)
    (ha : (i (d.cast hr.symm)).val = (j d).val) : cat3 t d h x0 x1 x2 j = x0 i :=
  concatenate_apply_piece d [⟨s0, x0⟩, ⟨s1, x1⟩, ⟨s2, x2⟩] h j 0 (by simp) s0 x0 rfl hr 0 rfl i hi (by omega)

/-- An index in the second piece of a join of three. -/
theorem cat3_second (hr : s1.rank = t.rank) (p : ℕ) (hp : (if q : s0.rank = t.rank then s0.size (d.cast q.symm) else 0) = p) (i : s1.Idx)
    (hi : ∀ e : Fin s1.rank, e.cast hr ≠ d → (i e).val = (j (e.cast hr)).val) (ha : p + (i (d.cast hr.symm)).val = (j d).val) :
    cat3 t d h x0 x1 x2 j = x1 i :=
  concatenate_apply_piece d [⟨s0, x0⟩, ⟨s1, x1⟩, ⟨s2, x2⟩] h j 1 (by simp) s1 x1 rfl hr p (by simpa using hp) i hi ha

/-- An index in the third piece of a join of three. -/
theorem cat3_third (hr : s2.rank = t.rank) (p : ℕ) (hp : (if q : s0.rank = t.rank then s0.size (d.cast q.symm) else 0)
      + (if q : s1.rank = t.rank then s1.size (d.cast q.symm) else 0) = p) (i : s2.Idx)
    (hi : ∀ e : Fin s2.rank, e.cast hr ≠ d → (i e).val = (j (e.cast hr)).val) (ha : p + (i (d.cast hr.symm)).val = (j d).val) :
    cat3 t d h x0 x1 x2 j = x2 i :=
  concatenate_apply_piece d [⟨s0, x0⟩, ⟨s1, x1⟩, ⟨s2, x2⟩] h j 2 (by simp) s2 x2 rfl hr p (by simpa using hp) i hi ha

/-- A join whose outer pieces are empty is its middle piece. -/
theorem cat3_mid (h : Shape.Concatenates [s0, t, s2] t d) (x1 : t.Idx → α)
    (h0 : (if q : s0.rank = t.rank then s0.size (d.cast q.symm) else 0) = 0) : cat3 t d h x0 x1 x2 = x1 :=
  funext fun j => cat3_second d h x0 x1 x2 j rfl 0 h0 j (fun _ _ => rfl) (by simp)

end

section
variable (b : ℕ) [HostFacts b]

theorem padA_eq (x : Fl (d4 b 1 32 32)) : padA b x = x := cat3_mid _ _ _ _ _ rfl
theorem padB_eq (x : Fl (d4 b 1 32 32)) : padB b x = x := cat3_mid _ _ _ _ _ rfl
theorem padC_eq (x : Fl (d4 b 1 32 32)) : padC b x = x := cat3_mid _ _ _ _ _ rfl
theorem padE_eq (x : Fl (d4 b 1 34 32)) : padE b x = x := cat3_mid _ _ _ _ _ rfl

/-- The place a padded place repeats. -/
abbrev inner (c : Fin 34) : Fin 32 := ⟨min (c.val - 1) 31, by omega⟩

/-- An unpadded column. -/
theorem column_apply (o : Fin 4 → ℕ) (hs : (d4 b 1 32 32).Slices o (d4 b 1 32 1)) (k : Fin 32) (ho : o = ![0, 0, 0, k.val])
    (x : Fl (d4 b 1 32 32)) (i : Fin b) (r : Fin 32) :
    shapeCast (d4 b 1 32 1) (broadcastInDim (d5 b 1 32 1 1) ![0, 1, 2, 3] bD (extractStridedSlice (d4 b 1 32 1) o x hs)) cD (ix4 i 0 r 0)
      = x (ix4 i 0 r k) := by
  subst ho
  rw [shapeCast_apply _ _ _ (ix5 i (0 : Fin 1) r (0 : Fin 1) (0 : Fin 1)) (by
      rw [Shape.rowMajor_val_five, Shape.rowMajor_val_four]; simp),
    broadcastInDim_apply _ _ _ _ (ix4 i (0 : Fin 1) r (0 : Fin 1)) (by
      intro a; fin_cases a
      · show i.val = if b = 1 then 0 else i.val
        split_ifs with q
        · have := i.isLt; omega
        · rfl
      · rfl
      · rfl
      · rfl),
    extractStridedSlice_apply _ _ _ _ (ix4 i (0 : Fin 1) r k) (by
      intro a; fin_cases a <;> simp)]

/-- An unpadded row. -/
theorem row_apply (o : Fin 4 → ℕ) (hs : (d4 b 1 32 32).Slices o (d4 b 1 1 32)) (k : Fin 32) (ho : o = ![0, 0, k.val, 0])
    (x : Fl (d4 b 1 32 32)) (i : Fin b) (c : Fin 32) :
    shapeCast (d4 b 1 1 32) (broadcastInDim (d5 b 1 1 1 32) ![0, 1, 2, 4] bC1 (extractStridedSlice (d4 b 1 1 32) o x hs)) cC1 (ix4 i 0 0 c)
      = x (ix4 i 0 k c) := by
  subst ho
  rw [shapeCast_apply _ _ _ (ix5 i (0 : Fin 1) (0 : Fin 1) (0 : Fin 1) c) (by
      rw [Shape.rowMajor_val_five, Shape.rowMajor_val_four]; simp),
    broadcastInDim_apply _ _ _ _ (ix4 i (0 : Fin 1) (0 : Fin 1) c) (by
      intro a; fin_cases a
      · show i.val = if b = 1 then 0 else i.val
        split_ifs with q
        · have := i.isLt; omega
        · rfl
      · rfl
      · rfl
      · rfl),
    extractStridedSlice_apply _ _ _ _ (ix4 i (0 : Fin 1) k c) (by
      intro a; fin_cases a <;> simp)]

/-- The columns with the first and the last repeated. -/
theorem padD_apply (x : Fl (d4 b 1 32 32)) (i : Fin b) (r : Fin 32) (c : Fin 34) : padD b x (ix4 i 0 r c) = x (ix4 i 0 r (inner c)) := by
  unfold padD
  rcases Nat.lt_or_ge c.val 1 with q | q
  · refine Eq.trans (cat3_first (t := d4 b 1 32 34) (s0 := d4 b 1 32 1) (s1 := d4 b 1 32 32) (s2 := d4 b 1 32 1) 3 kD _ _ _ (ix4 i (0 : Fin 1) r c) rfl (ix4 i (0 : Fin 1) r (0 : Fin 1))
      (by intro a ha; fin_cases a <;> first | rfl | exact absurd rfl ha) (by show 0 = c.val; omega)) ?_
    refine (column_apply b ![0, 0, 0, 0] _ (0 : Fin 32) rfl x i r).trans ?_
    exact congrArg (fun k => x (ix4 i 0 r k)) (Fin.ext (by simp [inner]; omega))
  · rcases Nat.lt_or_ge c.val 33 with q' | q'
    · exact cat3_second (t := d4 b 1 32 34) (s0 := d4 b 1 32 1) (s1 := d4 b 1 32 32) (s2 := d4 b 1 32 1) 3 kD _ _ _ (ix4 i (0 : Fin 1) r c) rfl 1 rfl (ix4 i (0 : Fin 1) r (inner c))
        (by intro a ha; fin_cases a <;> first | rfl | exact absurd rfl ha) (by show 1 + min (c.val - 1) 31 = c.val; omega)
    · refine Eq.trans (cat3_third (t := d4 b 1 32 34) (s0 := d4 b 1 32 1) (s1 := d4 b 1 32 32) (s2 := d4 b 1 32 1) 3 kD _ _ _ (ix4 i (0 : Fin 1) r c) rfl 33 rfl (ix4 i (0 : Fin 1) r (0 : Fin 1))
        (by intro a ha; fin_cases a <;> first | rfl | exact absurd rfl ha) (by show 33 + 0 = c.val; omega)) ?_
      refine (column_apply b ![0, 0, 0, 31] _ (31 : Fin 32) rfl x i r).trans ?_
      exact congrArg (fun k => x (ix4 i 0 r k)) (Fin.ext (by simp [inner]; omega))

/-- The rows with the first and the last repeated. -/
theorem padC'_apply (x : Fl (d4 b 1 32 32)) (i : Fin b) (r : Fin 34) (c : Fin 32) : padC' b x (ix4 i 0 r c) = x (ix4 i 0 (inner r) c) := by
  unfold padC'
  rcases Nat.lt_or_ge r.val 1 with q | q
  · refine Eq.trans (cat3_first (t := d4 b 1 34 32) (s0 := d4 b 1 1 32) (s1 := d4 b 1 32 32) (s2 := d4 b 1 1 32) 2 kC1 _ _ _ (ix4 i (0 : Fin 1) r c) rfl (ix4 i (0 : Fin 1) (0 : Fin 1) c)
      (by intro a ha; fin_cases a <;> first | rfl | exact absurd rfl ha) (by show 0 = r.val; omega)) ?_
    refine (row_apply b ![0, 0, 0, 0] _ (0 : Fin 32) rfl x i c).trans ?_
    exact congrArg (fun k => x (ix4 i 0 k c)) (Fin.ext (by simp [inner]; omega))
  · rcases Nat.lt_or_ge r.val 33 with q' | q'
    · exact cat3_second (t := d4 b 1 34 32) (s0 := d4 b 1 1 32) (s1 := d4 b 1 32 32) (s2 := d4 b 1 1 32) 2 kC1 _ _ _ (ix4 i (0 : Fin 1) r c) rfl 1 rfl (ix4 i (0 : Fin 1) (inner r) c)
        (by intro a ha; fin_cases a <;> first | rfl | exact absurd rfl ha) (by show 1 + min (r.val - 1) 31 = r.val; omega)
    · refine Eq.trans (cat3_third (t := d4 b 1 34 32) (s0 := d4 b 1 1 32) (s1 := d4 b 1 32 32) (s2 := d4 b 1 1 32) 2 kC1 _ _ _ (ix4 i (0 : Fin 1) r c) rfl 33 rfl (ix4 i (0 : Fin 1) (0 : Fin 1) c)
        (by intro a ha; fin_cases a <;> first | rfl | exact absurd rfl ha) (by show 33 + 0 = r.val; omega)) ?_
      refine (row_apply b ![0, 0, 31, 0] _ (31 : Fin 32) rfl x i c).trans ?_
      exact congrArg (fun k => x (ix4 i 0 k c)) (Fin.ext (by simp [inner]; omega))

/-- A constant at a pixel. -/
theorem splat4_apply (w : BitVec 32) (j : (d4 b 1 32 32).Idx) : splat4 b w j = word w := rfl

/-- The gradients along the rows. -/
theorem px_gx4 (x : Fl (d4 b 1 32 32)) (i : Fin b) : px (gx4 b x) i = gradX (px x i) := by
  funext l
  show gx4 b x (at4 i l) = _
  have hx : ∀ (o : Fin 4 → ℕ) (hs : (d4 b 1 32 34).Slices o (d4 b 1 32 32)) (k : Fin 34) (_ : o = ![0, 0, 0, k.val - l.val % 32])
      (_ : l.val % 32 ≤ k.val),
      extractStridedSlice (d4 b 1 32 32) o (padD b x) hs (at4 i l)
        = px x i ⟨32 * (l.val / 32) + min (k.val - 1) 31, by omega⟩ := by
    intro o hs k ho hk
    subst ho
    rw [extractStridedSlice_apply _ _ _ _ (ix4 i (0 : Fin 1) (⟨l.val / 32, by omega⟩ : Fin 32) k) (by
      intro a; fin_cases a
      · simp
      · simp
      · simp
      · show k.val = k.val - l.val % 32 + l.val % 32; omega), padD_apply]
    unfold px at4
    congr 1
    refine congrArg₂ (fun p q => ix4 i (0 : Fin 1) p q) (Fin.ext ?_) (Fin.ext ?_) <;> simp [inner] <;> omega
  unfold gx4
  rw [padA_eq, padB_eq, padC_eq]
  show word 0x3F000000#32 * (extractStridedSlice (d4 b 1 32 32) _ (padD b x) _ (at4 i l) - extractStridedSlice (d4 b 1 32 32) _ (padD b x) _ (at4 i l)) = _
  rw [hx _ _ ⟨l.val % 32, by omega⟩ (by simp) (by simp), hx _ _ ⟨l.val % 32 + 2, by omega⟩ (by simp) (by simp)]
  unfold gradX
  congr 3
  · unfold leftOf
    apply Fin.ext
    split_ifs <;> simp <;> omega
  · unfold rightOf
    apply Fin.ext
    split_ifs <;> simp <;> omega

/-- The gradients along the columns. -/
theorem px_gy4 (x : Fl (d4 b 1 32 32)) (i : Fin b) : px (gy4 b x) i = gradY (px x i) := by
  funext l
  show gy4 b x (at4 i l) = _
  have hx : ∀ (o : Fin 4 → ℕ) (hs : (d4 b 1 34 32).Slices o (d4 b 1 32 32)) (k : Fin 34) (_ : o = ![0, 0, k.val - l.val / 32, 0])
      (_ : l.val / 32 ≤ k.val),
      extractStridedSlice (d4 b 1 32 32) o (padC' b x) hs (at4 i l)
        = px x i ⟨32 * min (k.val - 1) 31 + l.val % 32, by omega⟩ := by
    intro o hs k ho hk
    subst ho
    rw [extractStridedSlice_apply _ _ _ _ (ix4 i (0 : Fin 1) k (⟨l.val % 32, by omega⟩ : Fin 32)) (by
      intro a; fin_cases a
      · simp
      · simp
      · show k.val = k.val - l.val / 32 + l.val / 32; omega
      · simp), padC'_apply]
    unfold px at4
    congr 1
    refine congrArg₂ (fun p q => ix4 i (0 : Fin 1) p q) (Fin.ext ?_) (Fin.ext ?_) <;> simp [inner] <;> omega
  unfold gy4
  rw [padA_eq, padB_eq, padE_eq]
  show word 0x3F000000#32 * (extractStridedSlice (d4 b 1 32 32) _ (padC' b x) _ (at4 i l) - extractStridedSlice (d4 b 1 32 32) _ (padC' b x) _ (at4 i l)) = _
  rw [hx _ _ ⟨l.val / 32, by omega⟩ (by simp) (by simp), hx _ _ ⟨l.val / 32 + 2, by omega⟩ (by simp) (by simp)]
  unfold gradY
  congr 3
  · unfold aboveOf
    apply Fin.ext
    split_ifs <;> simp <;> omega
  · unfold belowOf
    apply Fin.ext
    split_ifs <;> simp <;> omega

end

end Cert.Orient

end
-- ==== Proof.HostHist.lean ====
/-
  The histograms of `b` patches at once, read at a patch and a bin: the accumulating scatter adds a pixel's weight to its own
  row's bin, and a direction that names no bin adds nothing.
-/
module

public import proofs.«01_k».proof.Proof.HostGrad
public import Idealize.ShloMosaic.Lib.Routing.OpsPair

@[expose] public section

set_option maxRecDepth 16384

noncomputable section

namespace Cert.Orient

open Idealize.ShloMosaic HostFacts

/-! ## The word of a bin -/

/-- The zero word. -/
theorem word_zero : word 0x00000000#32 = 0 := Ideal.ofBits_zero_f32

/-- The number 36 made from the integer. -/
abbrev real36 : EReal := (((36#32 : BitVec 32).toInt : ℝ) : EReal)

/-- The floored remainder by 36 of one value. -/
def remOf (f : EReal) : EReal :=
  Scalar.select (IntOp.andi (IntOp.cmpi .ne (Ideal.cmp .olt (Ideal.remf f real36) (word 0x00000000#32))
      (Ideal.cmp .olt real36 (word 0x00000000#32))) (Ideal.cmp .une (Ideal.remf f real36) (word 0x00000000#32)))
    (Ideal.remf f real36 + real36) (Ideal.remf f real36)

/-- The word of one value, 36 added to a negative one. -/
def binOf (w : BitVec 32) : BitVec 32 := Scalar.select (IntOp.cmpi .slt w 0#32) (IntOp.addi w 36#32) w

theorem real36_eq : real36 = ((36 : ℝ) : EReal) := by
  unfold real36
  rw [show (36#32 : BitVec 32).toInt = 36 by decide]
  norm_num

theorem remOf_bot : remOf ⊥ = ⊥ := by
  unfold remOf
  rw [Ideal.remf_bot, real36_eq, EReal.bot_add]
  unfold Scalar.select
  split_ifs <;> rfl

theorem remOf_nat (n : Fin 36) : remOf ((n.val : ℝ) : EReal) = ((n.val : ℝ) : EReal) := by
  have hn : (0 : ℝ) ≤ (n.val : ℝ) := Nat.cast_nonneg _
  have hn' : (n.val : ℝ) < 36 := by exact_mod_cast n.isLt
  have e : Ideal.remf ((n.val : ℝ) : EReal) real36 = ((n.val : ℝ) : EReal) := by
    rw [real36_eq]
    show (if (36 : ℝ) = 0 then ⊥ else (((n.val : ℝ) - 36 * (Ideal.truncInt ((n.val : ℝ) / 36) : ℝ) : ℝ) : EReal)) = _
    have t : Ideal.truncInt ((n.val : ℝ) / 36) = 0 := by
      unfold Ideal.truncInt
      rw [if_pos (by positivity), Int.floor_eq_zero_iff]
      exact ⟨by positivity, by rw [div_lt_one (by norm_num)]; exact hn'⟩
    rw [t, if_neg (by norm_num)]
    simp
  unfold remOf
  rw [e, real36_eq, word_zero]
  have c1 : Ideal.cmp .olt ((n.val : ℝ) : EReal) 0 = 0#1 := by
    have : ¬ ((n.val : ℝ) : EReal) < 0 := not_lt.2 (by exact_mod_cast hn)
    unfold Ideal.cmp
    simp only [this, decide_false]
    rfl
  have c2 : Ideal.cmp .olt ((36 : ℝ) : EReal) 0 = 0#1 := by
    have : ¬ ((36 : ℝ) : EReal) < 0 := not_lt.2 (by exact_mod_cast (by norm_num : (0 : ℝ) ≤ 36))
    simp [Ideal.cmp, this]
  rw [c1, c2]
  have c3 : ∀ c : BitVec 1, IntOp.andi (IntOp.cmpi .ne (0#1 : BitVec 1) 0#1) c = 0#1 := by decide
  rw [c3]
  rfl

/-- The word of a value that is `⊥` or one of the 36 bins names bin `k` exactly when the value is `k`. -/
theorem binOf_toInt (f : EReal) (hf : f = ⊥ ∨ ∃ n : Fin 36, f = ((n.val : ℝ) : EReal)) (k : Fin 36) :
    (binOf (Ideal.fptosi 32 (remOf f))).toInt = k.val ↔ f = ((k.val : ℝ) : EReal) := by
  rcases hf with rfl | ⟨n, rfl⟩
  · rw [remOf_bot]
    have : (binOf (Ideal.fptosi 32 ⊥)).toInt = -2147483612 := by
      show (binOf (BitVec.ofInt 32 (-(2 ^ 31 : ℕ)))).toInt = _
      decide
    rw [this]
    constructor
    · intro h; have := k.isLt; omega
    · intro h; exact absurd h (EReal.bot_ne_coe _)
  · rw [remOf_nat]
    have : Ideal.fptosi 32 ((n.val : ℝ) : EReal) = BitVec.ofInt 32 n.val := by
      unfold Ideal.fptosi
      congr 1
      show max _ (min _ (if (0 : ℝ) ≤ (n.val : ℝ) then ⌊(n.val : ℝ)⌋ else _)) = _
      rw [if_pos (Nat.cast_nonneg _), Int.floor_natCast]
      have := n.isLt
      norm_num
      omega
    rw [this]
    have w : ∀ n : Fin 36, (binOf (BitVec.ofInt 32 n.val)).toInt = n.val := by decide
    rw [w]
    norm_cast

section
variable (b : ℕ) [HostFacts b]

/-- The direction at a pixel. -/
theorem turn4_at (u v : Fl (d4 b 1 32 32)) (i : Fin b) (l : Fin 1024) : turn4 b u v (at4 i l) = turn (px u i l) (px v i l) := rfl

/-- A pixel of the flattened patches. -/
theorem flat_apply {α : Type} (x : (d4 b 1 32 32).Idx → α) (i : Fin b) (l : Fin 1024) :
    shapeCast (d2 b 1024) x cF (ix2 i l) = px x i l :=
  shapeCast_apply _ _ _ _ (by
    rw [Shape.rowMajor_val_four, Shape.rowMajor_val_two]
    simp
    omega)

/-- The window at a pixel. -/
theorem window_at (g : Fl (d2 32 32)) (i : Fin b) (l : Fin 1024) :
    broadcastInDim (d4 b 1 32 32) ![0, 1, 2, 3] bT' (broadcastInDim (d4 1 1 32 32) ![2, 3] (bT b) g) (at4 i l)
      = g (ix2 (⟨l.val / 32, by omega⟩ : Fin 32) (⟨l.val % 32, by omega⟩ : Fin 32)) := by
  rw [broadcastInDim_apply _ _ _ _ (ix4 (0 : Fin 1) (0 : Fin 1) (⟨l.val / 32, by omega⟩ : Fin 32) (⟨l.val % 32, by omega⟩ : Fin 32)) (by
      intro a; fin_cases a <;> rfl),
    broadcastInDim_apply _ _ _ _ (ix2 (⟨l.val / 32, by omega⟩ : Fin 32) (⟨l.val % 32, by omega⟩ : Fin 32)) (by
      intro a; fin_cases a <;> rfl)]

/-- The window as values in row-major order. -/
def flatWindow (g : Fl (d2 32 32)) (l : Fin 1024) : EReal := g (ix2 (⟨l.val / 32, by omega⟩ : Fin 32) (⟨l.val % 32, by omega⟩ : Fin 32))

theorem weight2_apply (u v : Fl (d4 b 1 32 32)) (g : Fl (d2 32 32)) (i : Fin b) (l : Fin 1024) :
    weight2 b u v g (ix2 i l) = weight (px u i l) (px v i l) (flatWindow g l) := by
  unfold weight2
  rw [flat_apply]
  unfold flatWindow
  rw [← window_at b g i l]
  rfl

theorem bin2_apply (u v : Fl (d4 b 1 32 32)) (i : Fin b) (l : Fin 1024) :
    bin2 b u v (ix2 i l) = Ideal.fptosi 32 (remOf (flr (turn (px u i l) (px v i l)))) := by
  unfold bin2
  rw [flat_apply]
  rfl

/-- The row's number, as a word, is the row. -/
theorem place3_row (k : IVec (d2 b 1024) 32) (i : Fin b) (l : Fin 1024) : (place3 b k (ix3 i l 0)).toInt = i.val := by
  have hb : b ≤ 65536 := small
  have e : place3 b k (ix3 i l 0) = Scalar.select (IntOp.cmpi .slt (BitVec.ofNat 32 i.val) 0#32)
      (IntOp.addi (BitVec.ofNat 32 i.val) (BitVec.ofNat 32 b)) (BitVec.ofNat 32 i.val) := by
    unfold place3 cat2
    rw [concatenate_pair_apply_left (t := d3 b 1024 2) (s₁ := d3 b 1024 1) (s₂ := d3 b 1024 1) 2 _ _ kI (ix3 i l 0) rfl (ix3 i l (0 : Fin 1))
        (by intro a; fin_cases a <;> rfl),
      broadcastInDim_apply _ _ _ _ (ix2 i l) (by
        intro a; fin_cases a
        · show i.val = if b = 1 then 0 else i.val
          split_ifs with q
          · have := i.isLt; omega
          · rfl
        · rfl),
      broadcastInDim_apply _ _ _ _ (ix2 i (0 : Fin 1)) (by
        intro a; fin_cases a
        · show i.val = if b = 1 then 0 else i.val
          split_ifs with q
          · have := i.isLt; omega
          · rfl
        · rfl)]
    have r : broadcastInDim (d2 b 1) ![0] bR (iotaInDim (d1 b) 32 0) (ix2 i (0 : Fin 1)) = BitVec.ofNat 32 i.val := by
      rw [broadcastInDim_apply _ _ _ _ (ix1 i) (by
        intro a; fin_cases a
        show i.val = if b = 1 then 0 else i.val
        split_ifs with q
        · have := i.isLt; omega
        · rfl)]
      rfl
    rw [← r]
    rfl
  rw [e]
  have hi := i.isLt
  have h1 : (BitVec.ofNat 32 i.val).toInt = i.val := by
    rw [BitVec.toInt_ofNat']
    simp only [Int.bmod_def]
    omega
  have h2 : IntOp.cmpi .slt (BitVec.ofNat 32 i.val) 0#32 = 0#1 := by
    have : ¬ ((i.val : ℤ) < 0) := by omega
    simp [IntOp.cmpi, BitVec.slt, h1, this]
  rw [h2]
  exact h1

/-- The bin's number. -/
theorem place3_bin (k : IVec (d2 b 1024) 32) (i : Fin b) (l : Fin 1024) : place3 b k (ix3 i l 1) = binOf (k (ix2 i l)) := by
  unfold place3 cat2
  rw [concatenate_pair_apply_right (t := d3 b 1024 2) (s₁ := d3 b 1024 1) (s₂ := d3 b 1024 1) 2 _ _ kI (ix3 i l 1) rfl rfl (ix3 i l (0 : Fin 1))
      (by intro a ha; fin_cases a <;> first | rfl | exact absurd rfl ha) rfl,
    broadcastInDim_apply _ _ _ _ (ix2 i l) (by
      intro a; fin_cases a
      · show i.val = if b = 1 then 0 else i.val
        split_ifs with q
        · have := i.isLt; omega
        · rfl
      · rfl)]
  rfl

/-- The histograms. -/
theorem hist2_apply (u v : Fl (d4 b 1 32 32)) (g : Fl (d2 32 32)) (i : Fin b) (k : Fin 36) :
    hist2 b (bin2 b u v) (weight2 b u v g) (ix2 i k) = hist (px u i) (px v i) (flatWindow g) k := by
  have e : hist2 b (bin2 b u v) (weight2 b u v g) (ix2 i k)
      = Ideal.div (word 0x00000000#32 + ∑ j ∈ Finset.univ.filter (fun j => (sdims b).resultIdx? j (place3 b (bin2 b u v)) = some (ix2 i k)),
        weight2 b u v g j) (word 0x44800000#32) := rfl
  rw [e, word_1024, Ideal.div_coe (by norm_num), word_zero, zero_add]
  unfold hist
  have hl : ∀ (a : Fin b) (l : Fin 1024), (sdims b).resultIdx? (ix2 a l) (place3 b (bin2 b u v)) = some (ix2 i k)
      ↔ (place3 b (bin2 b u v) (ix3 a l 0)).toInt = i.val ∧ (place3 b (bin2 b u v) (ix3 a l 1)).toInt = k.val :=
    fun a l => Routing.scatter_lands2 (sdims b) rfl rfl rfl _ a l i k
  congr 1
  rw [Finset.sum_filter, sum_idx2, Finset.sum_eq_single i]
  · refine Finset.sum_congr rfl fun l _ => ?_
    rw [weight2_apply]
    refine if_congr ?_ rfl rfl
    rw [hl, place3_row, place3_bin, bin2_apply, binOf_toInt _ (flr_turn _ _)]
    simp
  · intro a _ ha
    refine Finset.sum_eq_zero fun l _ => if_neg ?_
    rw [hl, place3_row]
    rintro ⟨q, _⟩
    exact ha (Fin.ext (by exact_mod_cast q))
  · intro h; exact absurd (Finset.mem_univ _) h

end

end Cert.Orient

end
-- ==== Proof.Tables.lean ====
/-
  The three tables of Gaussian weights: the launch's row, the kernel's square and the reference's square hold the same values.
-/
module

public import proofs.«01_k».proof.Proof.LineLaunch
public import proofs.«01_k».proof.Proof.LineArray
public import proofs.«01_k».proof.Proof.ValueReference
public import proofs.«01_k».proof.Proof.HostHist

@[expose] public section

set_option maxRecDepth 65536

noncomputable section

namespace Cert.KernelIdeal.Body

open Cert.KernelIdeal Cert.KernelIdeal.Gen Cert.Orient
open Idealize.ShloMosaic

/-- The row and the reference's square. -/
theorem row_words : ∀ l : Fin 1024, Cert.KernelIdeal.lit0 l = Cert.ReferenceIdeal.lit0 l := by decide +kernel
/-- The two squares. -/
theorem square_words : ∀ l : Fin 1024, Cert.KernelIdeal.lit1 l = Cert.ReferenceIdeal.lit0 l := by decide +kernel

/-- A place of the square, in row-major order. -/
theorem square_place (l : Fin 1024) :
    (S32x32.rowMajor (ix2 (⟨l.val / 32, by omega⟩ : Fin 32) (⟨l.val % 32, by omega⟩ : Fin 32)) : Fin 1024) = l := by
  apply Fin.ext
  rw [Shape.rowMajor_val_two]
  show l.val / 32 * 32 + l.val % 32 = l.val
  omega

/-- A place of the row, in row-major order. -/
theorem row_place (l : Fin 1024) : (S1x1024.rowMajor (ix2 (0 : Fin 1) l) : Fin 1024) = l := by
  apply Fin.ext
  rw [Shape.rowMajor_val_two]
  show 0 * 1024 + l.val = l.val
  omega

variable (m : (ℓ : Loc nD τ sig) → Buf (Elt Ideal) ℓ)

/-- The window's values in row-major order. -/
theorem window_flat (l : Fin 1024) : flatWindow Cert.ReferenceIdeal.Value.window l = word (Cert.ReferenceIdeal.lit0 l) :=
  congrArg (fun k : Fin 1024 => word (Cert.ReferenceIdeal.lit0 k)) (square_place l)

/-- The launch's row is the reference's window. -/
theorem table_flat (c : Dev nD) : flatTable (table m c) = flatWindow Cert.ReferenceIdeal.Value.window := by
  funext l
  rw [window_flat, ← row_words]
  exact (congrFun (before_table m c) (ix2 (0 : Fin 1) l)).trans (congrArg (fun k : Fin 1024 => word (Cert.KernelIdeal.lit0 k)) (row_place l))

/-- The kernel's square is the reference's window. -/
theorem square_flat : flatWindow (fun i => Ideal.ofBits .f32 (Cert.KernelIdeal.lit1 (S32x32.rowMajor i))) = flatWindow Cert.ReferenceIdeal.Value.window := by
  funext l
  rw [window_flat, ← square_words]
  exact congrArg (fun k : Fin 1024 => word (Cert.KernelIdeal.lit1 k)) (square_place l)

end Cert.KernelIdeal.Body

end
-- ==== Proof.LineScatter.lean ====
/-
  The last scatter of the kernel's host line: a property of one entry that both the entry's old value and every value written
  there have is one of its new value.
-/
module

public import proofs.«01_k».proof.Proof.Gen.KernelIdeal.Launch
public import Idealize.ShloMosaic.Lib.Pointwise
public import Idealize.ShloMosaic.Lib.Routing.OpsPair
public import Idealize.ShloMosaic.Lib.Routing.Ops

@[expose] public section

set_option maxRecDepth 65536

noncomputable section

namespace Cert.KernelIdeal.Body

open Idealize.ShloMosaic Cert.KernelIdeal.Gen

/-- The update at index word `idx i` lands at an entry only if the word is the entry's number. -/
theorem lands_at (idx : IVec S512x1 32) (i : Fin 512) (n : Fin 65536)
    (h : scatter_S65536_S512x1_S512_n_0_0_1.resultIdx? (ix1 i) idx = some (ix1 n)) :
    idx (ix2 i (0 : Fin 1)) = BitVec.ofNat 32 n.val := by
  have hw : scatter_S65536_S512x1_S512_n_0_0_1.window (ix1 i) 0 = 0 := rfl
  have hs : scatter_S65536_S512x1_S512_n_0_0_1.start (ix1 i) idx 0 = (idx (ix2 i (0 : Fin 1))).toInt :=
    congrArg (fun j => (idx j).toInt) (by funext a; fin_cases a <;> rfl)
  unfold ScatterDims.resultIdx? at h
  split at h
  · next q =>
    have q0 := q 0
    have e := congrArg Fin.val (congrFun (Option.some.inj h) 0)
    change (scatter_S65536_S512x1_S512_n_0_0_1.start (ix1 i) idx 0 + (scatter_S65536_S512x1_S512_n_0_0_1.window (ix1 i) 0 : Int)).toNat = n.val at e
    rw [hw, hs] at e q0
    have z : (idx (ix2 i (0 : Fin 1))).toInt = n.val := by omega
    rw [← BitVec.ofInt_toInt (x := idx (ix2 i (0 : Fin 1))), z]
    rfl
  · cases h

/-- What holds of an entry before and of all that lands there holds of it afterwards. -/
theorem scatter_keeps {α : Type} (P : α → Prop) (x0 : S65536.Idx → α) (idx : IVec S512x1 32) (upd : S512.Idx → α) (n : Fin 65536)
    (h0 : P (x0 (ix1 n))) (hu : ∀ i, idx (ix2 i (0 : Fin 1)) = BitVec.ofNat 32 n.val → P (upd (ix1 i))) :
    P (Host.scatter scatter_S65536_S512x1_S512_n_0_0_1 (fun _ b => b) x0 idx upd (ix1 n)) := by
  rw [Routing.scatter_at]
  generalize x0 (ix1 n) = a at h0
  induction List.finRange S512.numel generalizing a with
  | nil => exact h0
  | cons j js ih =>
    rw [List.foldl_cons]
    refine ih _ ?_
    split_ifs with q
    · obtain ⟨i, hi⟩ : ∃ i : Fin 512, S512.rowMajor.symm j = ix1 i := ⟨_, eq_ix1 _⟩
      rw [hi] at q ⊢
      exact hu i (lands_at idx i n q)
    · exact h0

/-- A gathered row is the row its index word names. -/
theorem gathered_row {α : Type} (x : S65536x1024.Idx → α) (idx : IVec S512x1 32) (i : Fin 512) (n : Fin 65536)
    (h : idx (ix2 i (0 : Fin 1)) = BitVec.ofNat 32 n.val) (l : Fin 1024) :
    Host.gather gather_S65536x1024_S512x1_S512x1024_1_0_n_n_0_1_11024 x idx (ix2 i l) = x (ix2 n l) := by
  have hg : ∀ a b, idx (ix2 a (0 : Fin 1)) = BitVec.ofNat 32 b.val → ∀ l, Host.gather gather_S65536x1024_S512x1_S512x1024_1_0_n_n_0_1_11024 x idx (ix2 a l) = x (ix2 b l) :=
    fun a b h l => Routing.gather_row gather_S65536x1024_S512x1_S512x1024_1_0_n_n_0_1_11024 rfl rfl rfl rfl rfl x idx a l b h (by norm_num)
  exact hg i n h l

end Cert.KernelIdeal.Body

end
-- ==== Proof.LineKernel.lean ====
/-
  What the kernel's host operations after the launch compute, as one expression over the launch's results.
-/
module
public import proofs.«01_k».proof.Defs
public import proofs.«01_k».proof.Proof.Gen.KernelIdeal.Launch
public import proofs.«01_k».proof.Proof.HostTail
public import proofs.«01_k».proof.Proof.LineReads
public import Idealize.ShloMosaic.Lib.StableHlo.RunRead
@[expose] public section
set_option maxRecDepth 1000000
noncomputable section
namespace Cert.KernelIdeal.Body
open Idealize.ShloMosaic Idealize.SL.Sem Cert.KernelIdeal.Gen

/-- The indices that the confidence order names, those below zero counted from the end. -/
def places (ind : IVec S512 32) : IVec S512x1 32 :=
  broadcastInDim S512x1 ![0] Facts₀.bcast_S512_S512x1_0 (select (cmpi .slt ind (broadcastInDim S512 ![] Facts₀.bcast_S_S512 (constantI S_ 32 0#32)))
    (addi ind (broadcastInDim S512 ![] Facts₀.bcast_S_S512 (constantI S_ 32 65536#32))) ind)

/-- The 512 rows with the least confidence. -/
def order (o : FVec Ideal S65536x128 .f32) : IVec S512 32 :=
  (Host.topK S512 0 (FloatOps.cmpfTotal (F := Ideal) (φ := .f32) .gt) (Host.negf (shapeCast S65536 (extractStridedSlice S65536x1 ![0, 64] o
    Facts₀.slices_S65536x128_S65536x1_0_64) Facts₀.shapeCasts_S65536x1_S65536)) Facts₀.sliceFits_S65536_S512).2

open Cert.Orient in
set_option maxHeartbeats 80000000 in
/-- What the line after the launch leaves in the result: the launch's angles, with the recomputed ones of the named rows in
    their places. -/
theorem line_result (V : Valuation τ sig (Elt Ideal)) (o : FVec Ideal S65536x128 .f32) (x : FVec Ideal S65536x1024 .f32) (g : FVec Ideal S32x32 .f32)
    (ho : V (Proc.devRef .tc main_call0_v1) = o) (hx : V (Proc.devRef .tc main_call0_v0) = x) (hg : V (Proc.devRef .tc main_call0_cst_0) = g) :
    StableHlo.after hostOps1 V (Proc.devRef .tc main_v0) = (haveI := hostFacts_512;
     Host.scatter scatter_S65536_S512x1_S512_n_0_0_1 (fun _ b => b)
      (shapeCast S65536 (extractStridedSlice S65536x1 ![0, 0] o Facts₀.slices_S65536x128_S65536x1_0_0) Facts₀.shapeCasts_S65536x1_S65536)
      (places (order o))
      (orient 512 (shapeCast S512x1x32x32 (Host.gather gather_S65536x1024_S512x1_S512x1024_1_0_n_n_0_1_11024 x (places (order o)))
        Facts₀.shapeCasts_S512x1024_S512x1x32x32) g)) := by
  after_reads_simp [cat3_eq, cat2_eq, cons0, cons1, cons2, StableHlo.TRef.ofBuf_toBuf, ↓reshape_ref]
  rw [ho, hx, hg]
  refine (cast_eq _ _).trans ?_
  refine scatter_congr ?_ ?_ ?_
  · rfl
  · rfl
  · rfl

end Cert.KernelIdeal.Body
end
-- ==== Proof.HostPeak.lean ====
/-
  The smoothed histograms, their first largest bin and its angle, of `b` patches at once, read at a patch; with the histograms,
  the orientation of every patch.
-/
module

public import proofs.«01_k».proof.Proof.HostGrad

@[expose] public section

set_option maxRecDepth 16384

noncomputable section

namespace Cert.Orient

open Idealize.ShloMosaic HostFacts

/-! ## The first largest of 36 values, by a fold over pairs in any order -/

/-- A pair that is the best of the places in `S`: its place is in range, and no place in `S` comes before it. -/
def Best (s : Fin 36 → EReal) (S : Fin 36 → Prop) (a : EReal × BitVec 32) : Prop :=
  ∃ n : Fin 36, a.2 = BitVec.ofNat 32 n.val ∧ (a.1 = s n ∨ a.1 = ⊥ ∧ n = 0) ∧ ∀ k, S k → s k < a.1 ∨ s k = a.1 ∧ n ≤ k

/-- One step of the fold. -/
theorem Best.step {s : Fin 36 → EReal} {S : Fin 36 → Prop} {a : EReal × BitVec 32} (h : Best s S a) (k : Fin 36) :
    Best s (fun m => S m ∨ m = k) (better a (s k, BitVec.ofNat 32 k.val)) := by
  obtain ⟨n, hn, hv, hS⟩ := h
  obtain ⟨v, w⟩ := a
  simp only at hn hv hS
  subst hn
  have hslt : ∀ n k : Fin 36, IntOp.cmpi .slt (BitVec.ofNat 32 n.val) (BitVec.ofNat 32 k.val) = BitVec.ofBool (decide (n < k)) := by decide
  unfold better Best
  simp only [hslt, Ideal.cmp, ne_eq, not_true_eq_false, decide_false]
  rcases lt_trichotomy (s k) v with q | q | q
  · refine ⟨n, ?_, ?_, ?_⟩
    · simp [q, q.ne', Scalar.select, IntOp.ori, IntOp.andi]
    · simpa [q, Scalar.select, IntOp.ori] using hv
    · rintro m (hm | rfl)
      · simpa [q, Scalar.select, IntOp.ori] using hS m hm
      · left; simpa [q, Scalar.select, IntOp.ori] using q
  · subst q
    rcases lt_or_ge n k with c | c
    · refine ⟨n, ?_, ?_, ?_⟩
      · simp [c, Scalar.select, IntOp.ori, IntOp.andi]
      · simpa [Scalar.select, IntOp.ori] using hv
      · rintro m (hm | rfl)
        · simpa [Scalar.select, IntOp.ori] using hS m hm
        · right; simpa [Scalar.select, IntOp.ori] using c.le
    · refine ⟨k, ?_, ?_, ?_⟩
      · simp [not_lt.2 c, Scalar.select, IntOp.ori, IntOp.andi]
      · left; simp [Scalar.select, IntOp.ori]
      · rintro m (hm | rfl)
        · rcases hS m hm with p | ⟨p, p'⟩
          · left; simpa [Scalar.select, IntOp.ori] using p
          · right; simpa [Scalar.select, IntOp.ori] using ⟨p, c.trans p'⟩
        · right; simp [Scalar.select, IntOp.ori]
  · have q' : ¬ s k < v := not_lt.2 q.le
    refine ⟨k, ?_, ?_, ?_⟩
    · simp [q', q.ne, Scalar.select, IntOp.ori, IntOp.andi]
    · left; simp [q', Scalar.select, IntOp.ori]
    · rintro m (hm | rfl)
      · left
        rcases hS m hm with p | ⟨p, _⟩
        · simpa [q', Scalar.select, IntOp.ori] using p.trans q
        · simpa [q', Scalar.select, IntOp.ori] using p ▸ q
      · right; simp [q', Scalar.select, IntOp.ori]

/-- The whole fold: the best of every place listed. -/
theorem Best.fold {s : Fin 36 → EReal} (L : List (EReal × BitVec 32)) (hL : ∀ p ∈ L, ∃ k : Fin 36, p = (s k, BitVec.ofNat 32 k.val)) :
    ∀ (S : Fin 36 → Prop) (a : EReal × BitVec 32), Best s S a →
      Best s (fun k => S k ∨ (s k, BitVec.ofNat 32 k.val) ∈ L) (L.foldl better a) := by
  induction L with
  | nil => intro S a h; simpa using h
  | cons p L ih =>
    intro S a h
    obtain ⟨k, rfl⟩ := hL p (by simp)
    obtain ⟨n, h1, h2, h3⟩ := ih (fun q hq => hL q (List.mem_cons_of_mem _ hq)) _ _ (h.step k)
    refine ⟨n, h1, h2, fun m hm => h3 m ?_⟩
    rcases hm with hm | hm
    · exact Or.inl (Or.inl hm)
    · rcases List.mem_cons.1 hm with e | e
      · have : ∀ m k : Fin 36, BitVec.ofNat 32 m.val = BitVec.ofNat 32 k.val → m = k := by decide
        exact Or.inl (Or.inr (this _ _ (Prod.ext_iff.1 e).2))
      · exact Or.inr e

/-- The best of every place is the first largest. -/
theorem Best.first {s : Fin 36 → EReal} {a : EReal × BitVec 32} (h : Best s (fun _ => True) a) :
    ∃ n, IsFirstMax s n ∧ a.2 = BitVec.ofNat 32 n.val := by
  obtain ⟨n, hn, hv, hS⟩ := h
  have e : a.1 = s n := by
    rcases hv with e | ⟨e, rfl⟩
    · exact e
    · rcases hS 0 trivial with q | ⟨q, _⟩
      · rw [e] at q; exact absurd q not_lt_bot
      · exact q.symm
  rw [e] at hS
  refine ⟨n, ⟨fun j => ?_, fun j hj => ?_⟩, hn⟩
  · rcases hS j trivial with q | ⟨q, _⟩
    · exact q.le
    · exact q.le
  · rcases hS j trivial with q | ⟨_, q⟩
    · exact q
    · exact absurd hj (not_lt.2 q)

section
variable (b : ℕ) [HostFacts b]

/-- The widened histograms: zero at either end. -/
theorem wide2_apply (h : Fl (d2 b 36)) (i : Fin b) (c : Fin 38) :
    wide2 b h (ix2 i c) = if q : 1 ≤ c.val ∧ c.val ≤ 36 then h (ix2 i ⟨c.val - 1, by omega⟩) else 0 := by
  unfold wide2
  split_ifs with q
  · exact pad_apply_of_inside _ _ _ _ _ _ _ _ (ix2 i (⟨c.val - 1, by omega⟩ : Fin 36)) (by
      intro a; fin_cases a
      · show i.val = 0 + i.val * (0 + 1); omega
      · show c.val = 1 + (c.val - 1) * (0 + 1); omega)
  · rw [pad_apply_of_not_inside _ _ _ _ _ _ _ _ (1 : Fin 2) (by
      rintro ⟨q1, _, q3⟩
      have q1' : 1 ≤ c.val := q1
      have q3' : (c.val - 1) / (0 + 1) < 36 := q3
      omega)]
    show (((0#32 : BitVec 32).toInt : ℝ) : EReal) = 0
    simp

/-- The smoothed histograms. -/
theorem smooth2_apply (h : Fl (d2 b 36)) (i : Fin b) (k : Fin 36) : smooth2 b h (ix2 i k) = smooth (fun k => h (ix2 i k)) k := by
  have hs : ∀ (o : Fin 2 → ℕ) (hs : (d2 b 38).Slices o (d2 b 36)) (c : Fin 38) (_ : o = ![0, c.val - k.val]) (_ : k.val ≤ c.val),
      extractStridedSlice (d2 b 36) o (wide2 b h) hs (ix2 i k)
        = if q : 1 ≤ c.val ∧ c.val ≤ 36 then h (ix2 i ⟨c.val - 1, by omega⟩) else 0 := by
    intro o hs c ho hc
    subst ho
    rw [extractStridedSlice_apply _ _ _ _ (ix2 i c) (by
      intro a; fin_cases a
      · simp
      · show c.val = c.val - k.val + k.val; omega), wide2_apply]
  show word 0x3EA8F5C3#32 * extractStridedSlice (d2 b 36) _ (wide2 b h) _ (ix2 i k)
      + word 0x3EAE147B#32 * extractStridedSlice (d2 b 36) _ (wide2 b h) _ (ix2 i k)
      + word 0x3EA8F5C3#32 * extractStridedSlice (d2 b 36) _ (wide2 b h) _ (ix2 i k) = _
  rw [hs _ _ ⟨k.val, by omega⟩ (by simp) (by simp), hs _ _ ⟨k.val + 1, by omega⟩ (by simp) (by simp), hs _ _ ⟨k.val + 2, by omega⟩ (by simp) (by simp)]
  unfold smooth
  have hk := k.isLt
  congr 2
  · congr 1
    by_cases q : 1 ≤ k.val
    · rw [dif_pos ⟨q, by show k.val ≤ 36; omega⟩, dif_pos q]
    · rw [dif_neg (fun h => q h.1), dif_neg q]
  · rw [dif_pos ⟨by show 1 ≤ k.val + 1; omega, by show k.val + 1 ≤ 36; omega⟩]
    rfl
  · by_cases q : k.val < 35
    · rw [dif_pos ⟨by show 1 ≤ k.val + 2; omega, by show k.val + 2 ≤ 36; omega⟩, dif_pos q]
      rfl
    · rw [dif_neg (fun h => q (by have : k.val + 2 ≤ 36 := h.2; omega)), dif_neg q]

/-- The first largest bin. -/
theorem first1_apply (s : Fl (d2 b 36)) (i : Fin b) :
    ∃ n, IsFirstMax (fun k => s (ix2 i k)) n ∧ first1 b s (ix1 i) = BitVec.ofNat 32 n.val := by
  unfold first1
  rw [Ideal.argReduce_eq_reduce2, Host.reduce2_eq_foldl_fiber]
  set L := Host.argReduceFiber s (iotaInDim (d2 b 36) 32 1) rH (ix1 i) with hLd
  have hdrop : ∀ p : (d2 b 36).Idx, (rH (b := b)).drop p = ix1 i ↔ p 0 = i := by
    intro p
    have e : (((rH (b := b)).drop p) 0).val = (p 0).val := rfl
    constructor
    · intro q; rw [q] at e; exact Fin.ext e.symm
    · intro q; funext a; fin_cases a; exact Fin.ext (by rw [← q]; exact e)
  have hmem : ∀ p, p ∈ L ↔ ∃ k : Fin 36, p = (s (ix2 i k), BitVec.ofNat 32 k.val) := by
    intro p
    rw [hLd]
    unfold Host.argReduceFiber
    rw [List.mem_map]
    constructor
    · rintro ⟨n, hn, rfl⟩
      rw [List.mem_filter, decide_eq_true_eq, hdrop] at hn
      refine ⟨(d2 b 36).rowMajor.symm n 1, ?_⟩
      have e : (d2 b 36).rowMajor.symm n = ix2 i ((d2 b 36).rowMajor.symm n 1) := by
        rw [← hn.2]; exact eq_ix2 _
      exact Prod.ext (congrArg s e) rfl
    · rintro ⟨k, rfl⟩
      refine ⟨(d2 b 36).rowMajor (ix2 i k), ?_, ?_⟩
      · rw [List.mem_filter, decide_eq_true_eq, hdrop, Equiv.symm_apply_apply]
        exact ⟨List.mem_finRange _, rfl⟩
      · rw [Equiv.symm_apply_apply]; rfl
  have h0 : Best (fun k => s (ix2 i k)) (fun _ => False) ((⊥, 0#32) : EReal × BitVec 32) :=
    ⟨0, rfl, Or.inr ⟨rfl, rfl⟩, fun _ h => h.elim⟩
  have h1 := Best.fold L (fun p hp => (hmem p).1 hp) _ _ h0
  have e0 : word 0xFF800000#32 = ⊥ := by simp [word, Ideal.ofBits, Ideal.ieee]
  obtain ⟨n, hn, e⟩ := Best.first (s := fun k => s (ix2 i k)) (a := L.foldl better (⊥, 0#32)) (by
    obtain ⟨n, h1, h2, h3⟩ := h1
    exact ⟨n, h1, h2, fun k _ => h3 k (Or.inr ((hmem _).2 ⟨k, rfl⟩))⟩)
  refine ⟨n, hn, ?_⟩
  rw [← e]
  show (L.foldl better (word 0xFF800000#32, 0#32)).2 = _
  rw [e0]

/-- The angle of a bin. -/
theorem angle1_apply (w : IVec (d1 b) 32) (i : Fin b) (n : Fin 36) (h : w (ix1 i) = BitVec.ofNat 32 n.val) : angle1 b w (ix1 i) = angle n := by
  have e : angle1 b w (ix1 i)
      = -(Ideal.div (word 0x40C90FDB#32 * (((w (ix1 i)).toInt : ℝ) : EReal)) (word 0x42100000#32) - word 0x40490FDB#32) := rfl
  have t : ∀ n : Fin 36, (BitVec.ofNat 32 n.val).toInt = n.val := by decide
  rw [e, h, t]
  rfl

end

end Cert.Orient

end
-- ==== Proof.HostOrient.lean ====
/-
  The reference's orientation program, read at a patch: its result is the patch's orientation.
-/
module

public import proofs.«01_k».proof.Proof.HostHist
public import proofs.«01_k».proof.Proof.HostPeak

@[expose] public section

set_option maxRecDepth 65536

noncomputable section

namespace Cert.Orient

open Idealize.ShloMosaic

variable (b : ℕ) [HostFacts b]

/-- Every result of the program is the orientation of its patch. -/
theorem orient_at (x : Fl (d4 b 1 32 32)) (g : Fl (d2 32 32)) (i : Fin b) :
    IsOrientation (px x i) (flatWindow g) (orient b x g (ix1 i)) := by
  obtain ⟨n, hn, e⟩ := first1_apply b (smooth2 b (hist2 b (bin2 b (gx4 b x) (gy4 b x)) (weight2 b (gx4 b x) (gy4 b x) g))) i
  refine ⟨n, ?_, angle1_apply b _ i n e⟩
  have es : (fun k => smooth2 b (hist2 b (bin2 b (gx4 b x) (gy4 b x)) (weight2 b (gx4 b x) (gy4 b x) g)) (ix2 i k))
      = smooth (hist (gradX (px x i)) (gradY (px x i)) (flatWindow g)) := by
    funext k
    rw [smooth2_apply]
    congr 1
    funext k'
    rw [hist2_apply, px_gx4, px_gy4]
  rwa [es] at hn

end Cert.Orient

end
-- ==== Proof.LineValue.lean ====
/-
  The kernel's result at a patch: the patch's orientation, whichever of its two computations wrote it.
-/
module

public import proofs.«01_k».proof.Proof.Tables
public import proofs.«01_k».proof.Proof.LineScatter
public import proofs.«01_k».proof.Proof.LineKernel
public import proofs.«01_k».proof.Proof.HostOrient

@[expose] public section

set_option maxRecDepth 65536

noncomputable section

namespace Cert.KernelIdeal.Body

open Cert.KernelIdeal Cert.KernelIdeal.Gen Cert.Orient
open Idealize.ShloMosaic

variable (m : (ℓ : Loc nD τ sig) → Buf (Elt Ideal) ℓ)

/-- The patches of a device. -/
abbrev patches (c : Dev nD) : FVec Ideal S65536x1x32x32 .f32 := m ((c.tc : Thread nD τ).loc main_arg0)

/-- Row `n` is patch `n`. -/
theorem rows_apply (c : Dev nD) (n : Fin 65536) (l : Fin 1024) : rows m c (ix2 n l) = px (patches m c) n l := by
  refine (congrFun (before_rows m c) (ix2 n l)).trans (shapeCast_apply _ _ _ (at4 n l) ?_)
  unfold at4
  rw [Shape.rowMajor_val_two, Shape.rowMajor_val_four]
  show ((n.val * 1 + 0) * 32 + l.val / 32) * 32 + l.val % 32 = n.val * 1024 + l.val
  omega

/-- The contents the operations after the launch begin from. -/
abbrev afterLaunch (c : Dev nD) : Valuation τ sig (Elt Ideal) :=
  Pipeline.afterRegion (dats m 0 c) (StableHlo.after hostOps0 (StableHlo.launchContents m c))

/-- The launch's result is in its array. -/
theorem afterLaunch_out (c : Dev nD) : afterLaunch m c (Proc.devRef .tc main_call0_v1) = (dats m 0 c).arrAt 2 cfg0.N := by
  unfold afterLaunch
  exact Pipeline.afterRegion_arr (dats m 0 c) _ Gen.launch0.win.arr_inj 2

/-- The launch leaves the rows. -/
theorem afterLaunch_rows (c : Dev nD) : afterLaunch m c (Proc.devRef .tc main_call0_v0) = rows m c := by
  unfold afterLaunch
  exact (Pipeline.afterRegion_arr (dats m 0 c) _ Gen.launch0.win.arr_inj 0).trans ((dats m 0 c).arrAt_in 0 rfl _)

/-- The square table's buffer is none of the arrays the launch stages. -/
theorem window_not_arr (w : Fin 3) : main_call0_cst_0 ≠ Pipeline.arrRef spec0 w := by
  revert w; decide +kernel

/-- The launch leaves the square table. -/
theorem afterLaunch_window (c : Dev nD) :
    (afterLaunch m c (Proc.devRef .tc main_call0_cst_0) : FVec Ideal S32x32 .f32) = fun i => Ideal.ofBits .f32 (Cert.KernelIdeal.lit1 (S32x32.rowMajor i)) := by
  unfold afterLaunch
  rw [Pipeline.afterRegion_of_not_arr _ _ window_not_arr]
  exact before_window m c

/-- The result at a patch. -/
theorem result_at (c : Dev nD) (n : Fin 65536) :
    IsOrientation (px (patches m c) n) (flatWindow Cert.ReferenceIdeal.Value.window)
      ((StableHlo.after hostOps1 (afterLaunch m c) (Proc.devRef .tc main_v0) : FVec Ideal S65536 .f32) (ix1 n)) := by
  rw [line_result (afterLaunch m c) _ _ _ (afterLaunch_out m c) (afterLaunch_rows m c) (afterLaunch_window m c)]
  have hrow : (fun l => rows m c (ix2 n l)) = px (patches m c) n := funext fun l => rows_apply m c n l
  refine scatter_keeps (fun a => IsOrientation (px (patches m c) n) (flatWindow Cert.ReferenceIdeal.Value.window) a) _ _ _ n ?_ ?_
  · have h := array_at m c n
    rw [hrow, table_flat] at h
    refine (congrArg (IsOrientation _ _) ?_).mp h
    rw [shapeCast_apply _ _ _ (ix2 n (0 : Fin 1)) (by rw [Shape.rowMajor_val_one, Shape.rowMajor_val_two]; simp),
      extractStridedSlice_apply _ _ _ _ (ix2 n (0 : Fin 128)) (by intro a; fin_cases a <;> simp)]
  · intro i hi
    haveI := hostFacts_512
    rw [← square_flat, ← hrow]
    have h := orient_at 512 (shapeCast S512x1x32x32 (Host.gather gather_S65536x1024_S512x1_S512x1024_1_0_n_n_0_1_11024 (rows m c)
      (places (order ((dats m 0 c).arrAt 2 cfg0.N)))) Facts₀.shapeCasts_S512x1024_S512x1x32x32)
      (fun i => Ideal.ofBits .f32 (Cert.KernelIdeal.lit1 (S32x32.rowMajor i))) i
    have hp : px (shapeCast S512x1x32x32 (Host.gather gather_S65536x1024_S512x1_S512x1024_1_0_n_n_0_1_11024 (rows m c)
      (places (order ((dats m 0 c).arrAt 2 cfg0.N)))) Facts₀.shapeCasts_S512x1024_S512x1x32x32) i = fun l => rows m c (ix2 n l) := by
      funext l
      refine (shapeCast_apply _ _ _ (ix2 i l) ?_).trans (gathered_row (rows m c) _ i n hi l)
      unfold at4
      rw [Shape.rowMajor_val_two, Shape.rowMajor_val_four]
      show i.val * 1024 + l.val = ((i.val * 1 + 0) * 32 + l.val / 32) * 32 + l.val % 32
      omega
    rwa [hp] at h

/-- The result is what the reference computes. -/
theorem result_eq (c : Dev nD) :
    (StableHlo.after hostOps1 (afterLaunch m c) (Proc.devRef .tc main_v0) : FVec Ideal S65536 .f32)
      = (haveI := hostFacts_65536; orient 65536 (patches m c) Cert.ReferenceIdeal.Value.window) := by
  haveI := hostFacts_65536
  funext j
  obtain ⟨n, rfl⟩ : ∃ n : Fin 65536, j = ix1 n := ⟨_, eq_ix1 j⟩
  exact (result_at m c n).unique (orient_at 65536 (patches m c) Cert.ReferenceIdeal.Value.window n)

end Cert.KernelIdeal.Body

end
-- ==== Proof.Algebraic.lean ====
/-
  `KernelIdeal` and `ReferenceIdeal` end with equal results.
-/
module

public import proofs.«01_k».proof.Proof.LineValue
public import proofs.«01_k».proof.Proof.FrameKernelIdeal

@[expose] public section

noncomputable section

namespace Cert.Proof

open Idealize.ShloMosaic Idealize.SL.Sem

/-- From equal arguments both end with the orientations of the patches. -/
theorem algebraic_KernelIdeal_ReferenceIdeal : Cert.algebraic_KernelIdeal_ReferenceIdeal := by
  intro m g m' g' _ hm
  refine ⟨fun c => StableHlo.after Cert.KernelIdeal.Gen.hostOps1 (Cert.KernelIdeal.Body.afterLaunch m c) (Proc.devRef .tc Cert.KernelIdeal.main_v0), ?_, ?_⟩
  · refine MeshRun.mono ?_ (Cert.KernelIdeal.Body.run_main m g)
    exact fun r h c => ⟨h c Cert.KernelIdeal.main_v0 rfl, (h c Cert.KernelIdeal.main_arg0 rfl).trans (Cert.KernelIdeal.Body.arg0_kept m c)⟩
  · refine MeshRun.mono ?_ (Cert.ReferenceIdeal.Value.run m' g')
    intro r h c
    refine ⟨((h c).1.trans ?_).trans (Cert.KernelIdeal.Body.result_eq m c).symm, (h c).2⟩
    rw [hm c]

end Cert.Proof

end
-- ==== Proof.lean ====
/-
  The claim of `Defs.lean`, put together from the modules under Proof/: the end states of the three programs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.FrameKernel
public import proofs.«01_k».proof.Proof.FrameKernelIdeal
public import proofs.«01_k».proof.Proof.FrameReference
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    frame_Kernel, frame_KernelIdeal, frame_ReferenceIdeal, trivial,
    algebraic_KernelIdeal_ReferenceIdeal⟩

end Cert.Proof

end
